-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x40x128 : Shape := ⟨4, ![4, 512, 40, 128]⟩
abbrev S4x512x40 : Shape := ⟨3, ![4, 512, 40]⟩
abbrev S32768x8x128 : Shape := ⟨3, ![32768, 8, 128]⟩
abbrev S256x8x128 : Shape := ⟨3, ![256, 8, 128]⟩
abbrev S4x512x8x128 : Shape := ⟨4, ![4, 512, 8, 128]⟩
abbrev S4x512x8 : Shape := ⟨3, ![4, 512, 8]⟩
abbrev S4x40x512x128 : Shape := ⟨4, ![4, 40, 512, 128]⟩
abbrev S4x40x512 : Shape := ⟨3, ![4, 40, 512]⟩
abbrev S4x40x1x512 : Shape := ⟨4, ![4, 40, 1, 512]⟩
abbrev S8x32768x128 : Shape := ⟨3, ![8, 32768, 128]⟩
abbrev S8x256x128 : Shape := ⟨3, ![8, 256, 128]⟩
abbrev S4x8x512x128 : Shape := ⟨4, ![4, 8, 512, 128]⟩
abbrev S4x8x512 : Shape := ⟨3, ![4, 8, 512]⟩
abbrev S4x8x512x1 : Shape := ⟨4, ![4, 8, 512, 1]⟩
abbrev S4x512x5120 : Shape := ⟨3, ![4, 512, 5120]⟩
abbrev S1x1x512x128 : Shape := ⟨4, ![1, 1, 512, 128]⟩
abbrev S1x1x1x512 : Shape := ⟨4, ![1, 1, 1, 512]⟩
abbrev S1x32768x128 : Shape := ⟨3, ![1, 32768, 128]⟩
abbrev S1x256x128 : Shape := ⟨3, ![1, 256, 128]⟩
abbrev S1x1x512x1 : Shape := ⟨4, ![1, 1, 512, 1]⟩
abbrev S1x512x128 : Shape := ⟨3, ![1, 512, 128]⟩
abbrev S32768x128 : Shape := ⟨2, ![32768, 128]⟩
abbrev S128x32768 : Shape := ⟨2, ![128, 32768]⟩
abbrev S512x128 : Shape := ⟨2, ![512, 128]⟩
abbrev S128x512 : Shape := ⟨2, ![128, 512]⟩
abbrev S8x512 : Shape := ⟨2, ![8, 512]⟩
abbrev S1x512 : Shape := ⟨2, ![1, 512]⟩
abbrev S1x1x128 : Shape := ⟨3, ![1, 1, 128]⟩
abbrev S1x128 : Shape := ⟨2, ![1, 128]⟩
abbrev S1x128x128 : Shape := ⟨3, ![1, 128, 128]⟩
abbrev S128x128 : Shape := ⟨2, ![128, 128]⟩
abbrev S1024x128 : Shape := ⟨2, ![1024, 128]⟩
abbrev S1024x512 : Shape := ⟨2, ![1024, 512]⟩
abbrev S128x8x512 : Shape := ⟨3, ![128, 8, 512]⟩
abbrev S512 : Shape := ⟨1, ![512]⟩
abbrev S128x1024 : Shape := ⟨2, ![128, 1024]⟩
abbrev S1x1x512 : Shape := ⟨3, ![1, 1, 512]⟩
abbrev S1 : Shape := ⟨1, ![1]⟩
abbrev S1x1x1 : Shape := ⟨3, ![1, 1, 1]⟩
abbrev S512x512 : Shape := ⟨2, ![512, 512]⟩
abbrev S512x1 : Shape := ⟨2, ![512, 1]⟩

abbrev nBuf : Space → Nat
  | .hbm => 30
  | .vmem => 32
  | .smem => 0
  | _ => 0

abbrev bufTy : (tb : Table) → Fin (tcTables nBuf tb) → BufTy
  | .hbm, ⟨0, _⟩ => ⟨S4x512x40x128, .fp8e4m3⟩
  | .hbm, ⟨1, _⟩ => ⟨S4x512x40, .f32⟩
  | .hbm, ⟨2, _⟩ => ⟨S32768x8x128, .fp8e4m3⟩
  | .hbm, ⟨3, _⟩ => ⟨S32768x8x128, .fp8e4m3⟩
  | .hbm, ⟨4, _⟩ => ⟨S256x8x128, .f32⟩
  | .hbm, ⟨5, _⟩ => ⟨S256x8x128, .f32⟩
  | .hbm, ⟨6, _⟩ => ⟨S4x512x8x128, .fp8e4m3⟩
  | .hbm, ⟨7, _⟩ => ⟨S4x512x8x128, .fp8e4m3⟩
  | .hbm, ⟨8, _⟩ => ⟨S4x512x8, .f32⟩
  | .hbm, ⟨9, _⟩ => ⟨S4x512x8, .f32⟩
  | .hbm, ⟨10, _⟩ => ⟨S4x40x512x128, .fp8e4m3⟩
  | .hbm, ⟨11, _⟩ => ⟨S4x40x512, .f32⟩
  | .hbm, ⟨12, _⟩ => ⟨S4x40x1x512, .f32⟩
  | .hbm, ⟨13, _⟩ => ⟨S8x32768x128, .fp8e4m3⟩
  | .hbm, ⟨14, _⟩ => ⟨S8x32768x128, .fp8e4m3⟩
  | .hbm, ⟨15, _⟩ => ⟨S8x256x128, .f32⟩
  | .hbm, ⟨16, _⟩ => ⟨S8x256x128, .f32⟩
  | .hbm, ⟨17, _⟩ => ⟨S4x8x512x128, .fp8e4m3⟩
  | .hbm, ⟨18, _⟩ => ⟨S4x8x512x128, .fp8e4m3⟩
  | .hbm, ⟨19, _⟩ => ⟨S4x8x512, .f32⟩
  | .hbm, ⟨20, _⟩ => ⟨S4x8x512x1, .f32⟩
  | .hbm, ⟨21, _⟩ => ⟨S4x8x512, .f32⟩
  | .hbm, ⟨22, _⟩ => ⟨S4x8x512x1, .f32⟩
  | .hbm, ⟨23, _⟩ => ⟨S4x512x5120, .bf16⟩
  | .hbm, ⟨24, _⟩ => ⟨S4x40x1x512, .f32⟩
  | .hbm, ⟨25, _⟩ => ⟨S4x40x1x512, .f32⟩
  | .hbm, ⟨26, _⟩ => ⟨S4x40x512, .f32⟩
  | .hbm, ⟨27, _⟩ => ⟨S4x512x40, .f32⟩
  | .hbm, ⟨28, _⟩ => ⟨S4x40x512, .f32⟩
  | .hbm, ⟨29, _⟩ => ⟨S4x512x40, .f32⟩
  | .local _ .vmem, ⟨0, _⟩ => ⟨S1x1x512x128, .fp8e4m3⟩
  | .local _ .vmem, ⟨1, _⟩ => ⟨S1x1x512x128, .fp8e4m3⟩
  | .local _ .vmem, ⟨2, _⟩ => ⟨S1x1x1x512, .f32⟩
  | .local _ .vmem, ⟨3, _⟩ => ⟨S1x1x1x512, .f32⟩
  | .local _ .vmem, ⟨4, _⟩ => ⟨S1x32768x128, .fp8e4m3⟩
  | .local _ .vmem, ⟨5, _⟩ => ⟨S1x32768x128, .fp8e4m3⟩
  | .local _ .vmem, ⟨6, _⟩ => ⟨S1x32768x128, .fp8e4m3⟩
  | .local _ .vmem, ⟨7, _⟩ => ⟨S1x32768x128, .fp8e4m3⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x1x512x128, .fp8e4m3⟩
  | .local _ .vmem, ⟨13, _⟩ => ⟨S1x1x512x128, .fp8e4m3⟩
  | .local _ .vmem, ⟨14, _⟩ => ⟨S1x1x512x128, .fp8e4m3⟩
  | .local _ .vmem, ⟨15, _⟩ => ⟨S1x1x512x128, .fp8e4m3⟩
  | .local _ .vmem, ⟨16, _⟩ => ⟨S1x1x512x1, .f32⟩
  | .local _ .vmem, ⟨17, _⟩ => ⟨S1x1x512x1, .f32⟩
  | .local _ .vmem, ⟨18, _⟩ => ⟨S1x1x512x1, .f32⟩
  | .local _ .vmem, ⟨19, _⟩ => ⟨S1x1x512x1, .f32⟩
  | .local _ .vmem, ⟨20, _⟩ => ⟨S1x512x128, .bf16⟩
  | .local _ .vmem, ⟨21, _⟩ => ⟨S1x512x128, .bf16⟩
  | .local _ .vmem, ⟨22, _⟩ => ⟨S1x1x1x512, .f32⟩
  | .local _ .vmem, ⟨23, _⟩ => ⟨S1x1x1x512, .f32⟩
  | .local _ .vmem, ⟨24, _⟩ => ⟨S1x1x1x512, .f32⟩
  | .local _ .vmem, ⟨25, _⟩ => ⟨S1x1x1x512, .f32⟩
  | .local _ .vmem, ⟨26, _⟩ => ⟨S32768x128, .bf16⟩
  | .local _ .vmem, ⟨27, _⟩ => ⟨S128x32768, .bf16⟩
  | .local _ .vmem, ⟨28, _⟩ => ⟨S512x128, .bf16⟩
  | .local _ .vmem, ⟨29, _⟩ => ⟨S128x512, .f32⟩
  | .local _ .vmem, ⟨30, _⟩ => ⟨S8x512, .f32⟩
  | .local _ .vmem, ⟨31, _⟩ => ⟨S1x512, .f32⟩
  | _, _ => ⟨S4x512x40x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 20], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_86 : BitVec 32 := 0#32
  let c64_i32 : BitVec 32 := 64#32
  let v143 : BitVec 32 := Scalar.addi c0_i32_86 c64_i32
  let c1_i32_87 : BitVec 32 := 1#32
  ⟨c0_i32_86, v143, c1_i32_87⟩
def k0_mult1 (k0_t1 : Fin k0_t1_loop.trips) : BitVec 32 :=
  let c0_i32_86 : BitVec 32 := 0#32
  let c1_i32_87 : BitVec 32 := 1#32
  let arg21 : BitVec 32 := Scf.iv c0_i32_86 c1_i32_87 k0_t1
  let c512_i32 : BitVec 32 := 512#32
  let v146 : BitVec 32 := Scalar.muli arg21 c512_i32
  let c0_i32_90 : BitVec 32 := 0#32
  let v147 : BitVec 32 := Scalar.addi v146 c0_i32_90
  v147
def k0_off1 (k0_t1 : Fin k0_t1_loop.trips) (c0_i32_89 : BitVec 32) : Fin 3 → Nat :=
  let c0_91 : Index := 0#32
  let c0_i32_86 : BitVec 32 := 0#32
  let c1_i32_87 : BitVec 32 := 1#32
  let arg21 : BitVec 32 := Scf.iv c0_i32_86 c1_i32_87 k0_t1
  let c4_i32 : BitVec 32 := 4#32
  let v144 : BitVec 32 := Scalar.muli arg21 c4_i32
  let v145 : BitVec 32 := Scalar.addi v144 c0_i32_89
  let v149 : Index := Scalar.indexCast v145
  let c0_92 : Index := 0#32
  ![0, v149.toNat, 0]
def k0_off2 (k0_t1 : Fin k0_t1_loop.trips) (c0_i32_90 : BitVec 32) : Fin 3 → Nat :=
  let c0_95 : Index := 0#32
  let c0_i32_86 : BitVec 32 := 0#32
  let c1_i32_87 : BitVec 32 := 1#32
  let arg21 : BitVec 32 := Scf.iv c0_i32_86 c1_i32_87 k0_t1
  let c512_i32 : BitVec 32 := 512#32
  let v146 : BitVec 32 := Scalar.muli arg21 c512_i32
  let v147 : BitVec 32 := Scalar.addi v146 c0_i32_90
  let v148 : BitVec 32 := v147
  let v157 : Index := Scalar.indexCast v148
  let c0_96 : Index := 0#32
  ![0, v157.toNat, 0]
def k0_off3 (k0_t1 : Fin k0_t1_loop.trips) (c0_i32_90 : BitVec 32) : Fin 2 → Nat :=
  let c0_i32_86 : BitVec 32 := 0#32
  let c1_i32_87 : BitVec 32 := 1#32
  let arg21 : BitVec 32 := Scf.iv c0_i32_86 c1_i32_87 k0_t1
  let c512_i32 : BitVec 32 := 512#32
  let v146 : BitVec 32 := Scalar.muli arg21 c512_i32
  let v147 : BitVec 32 := Scalar.addi v146 c0_i32_90
  let v148 : BitVec 32 := v147
  let v163 : Index := Scalar.indexCast v148
  let c0_97 : Index := 0#32
  ![v163.toNat, 0]
def k0_off4 (k0_t1 : Fin k0_t1_loop.trips) (c0_i32_90 : BitVec 32) : Fin 2 → Nat :=
  let c0_100 : Index := 0#32
  let c0_i32_86 : BitVec 32 := 0#32
  let c1_i32_87 : BitVec 32 := 1#32
  let arg21 : BitVec 32 := Scf.iv c0_i32_86 c1_i32_87 k0_t1
  let c512_i32 : BitVec 32 := 512#32
  let v146 : BitVec 32 := Scalar.muli arg21 c512_i32
  let v147 : BitVec 32 := Scalar.addi v146 c0_i32_90
  let v148 : BitVec 32 := v147
  let v174 : Index := Scalar.indexCast v148
  ![0, v174.toNat]
def k0_mult2 (k0_t1 : Fin k0_t1_loop.trips) : BitVec 32 :=
  let c0_i32_86 : BitVec 32 := 0#32
  let c1_i32_87 : BitVec 32 := 1#32
  let arg21 : BitVec 32 := Scf.iv c0_i32_86 c1_i32_87 k0_t1
  let c512_i32_103 : BitVec 32 := 512#32
  let v180 : BitVec 32 := Scalar.muli arg21 c512_i32_103
  let c128_i32 : BitVec 32 := 128#32
  let v181 : BitVec 32 := Scalar.addi v180 c128_i32
  v181
def k0_mult3 (k0_t1 : Fin k0_t1_loop.trips) : BitVec 32 :=
  let c0_i32_86 : BitVec 32 := 0#32
  let c1_i32_87 : BitVec 32 := 1#32
  let arg21 : BitVec 32 := Scf.iv c0_i32_86 c1_i32_87 k0_t1
  let c512_i32_115 : BitVec 32 := 512#32
  let v214 : BitVec 32 := Scalar.muli arg21 c512_i32_115
  let c256_i32 : BitVec 32 := 256#32
  let v215 : BitVec 32 := Scalar.addi v214 c256_i32
  v215
def k0_mult4 (k0_t1 : Fin k0_t1_loop.trips) : BitVec 32 :=
  let c0_i32_86 : BitVec 32 := 0#32
  let c1_i32_87 : BitVec 32 := 1#32
  let arg21 : BitVec 32 := Scf.iv c0_i32_86 c1_i32_87 k0_t1
  let c512_i32_127 : BitVec 32 := 512#32
  let v248 : BitVec 32 := Scalar.muli arg21 c512_i32_127
  let c384_i32 : BitVec 32 := 384#32
  let v249 : BitVec 32 := Scalar.addi v248 c384_i32
  v249
def k0_mult5 : BitVec 32 :=
  let c0_i32_12 : BitVec 32 := 0#32
  let c1024_i32 : BitVec 32 := 1024#32
  let v16 : BitVec 32 := Scalar.muli c0_i32_12 c1024_i32
  v16
def k0_off5 : Fin 2 → Nat :=
  let c0_i32_12 : BitVec 32 := 0#32
  let c1024_i32 : BitVec 32 := 1024#32
  let v16 : BitVec 32 := Scalar.muli c0_i32_12 c1024_i32
  let v17 : BitVec 32 := v16
  let v18 : Index := Scalar.indexCast v17
  let c0_13 : Index := 0#32
  ![v18.toNat, 0]
@[reducible] def k0_t2_loop : Scf.Loop 32 :=
  let c0_i32_27 : BitVec 32 := 0#32
  let c32_i32 : BitVec 32 := 32#32
  let v40 : BitVec 32 := Scalar.addi c0_i32_27 c32_i32
  let c1_i32_28 : BitVec 32 := 1#32
  ⟨c0_i32_27, v40, c1_i32_28⟩
def k0_mult6 (k0_t2 : Fin k0_t2_loop.trips) : BitVec 32 :=
  let c0_i32_27 : BitVec 32 := 0#32
  let c1_i32_28 : BitVec 32 := 1#32
  let arg21 : BitVec 32 := Scf.iv c0_i32_27 c1_i32_28 k0_t2
  let c1024_i32_86 : BitVec 32 := 1024#32
  let v143 : BitVec 32 := Scalar.muli arg21 c1024_i32_86
  v143
def k0_off6 (k0_t2 : Fin k0_t2_loop.trips) : Fin 2 → Nat :=
  let c0_i32_27 : BitVec 32 := 0#32
  let c1_i32_28 : BitVec 32 := 1#32
  let arg21 : BitVec 32 := Scf.iv c0_i32_27 c1_i32_28 k0_t2
  let c1024_i32_86 : BitVec 32 := 1024#32
  let v143 : BitVec 32 := Scalar.muli arg21 c1024_i32_86
  let v144 : BitVec 32 := v143
  let v145 : Index := Scalar.indexCast v144
  let c0_87 : Index := 0#32
  ![v145.toNat, 0]
def k0_off7 (k0_t2 : Fin k0_t2_loop.trips) : Fin 2 → Nat :=
  let c0_98 : Index := 0#32
  let c0_i32_27 : BitVec 32 := 0#32
  let c1_i32_28 : BitVec 32 := 1#32
  let arg21 : BitVec 32 := Scf.iv c0_i32_27 c1_i32_28 k0_t2
  let c1024_i32_86 : BitVec 32 := 1024#32
  let v143 : BitVec 32 := Scalar.muli arg21 c1024_i32_86
  let v144 : BitVec 32 := v143
  let v162 : Index := Scalar.indexCast v144
  ![0, v162.toNat]
@[reducible] def k0_t3_loop : Scf.Loop 32 :=
  let c0_i32_87 : BitVec 32 := 0#32
  let c32_i32_88 : BitVec 32 := 32#32
  let v144 : BitVec 32 := Scalar.addi c0_i32_87 c32_i32_88
  let c1_i32_89 : BitVec 32 := 1#32
  ⟨c0_i32_87, v144, c1_i32_89⟩
def k0_mult7 (k0_t3 : Fin k0_t3_loop.trips) : BitVec 32 :=
  let c0_i32_87 : BitVec 32 := 0#32
  let c1_i32_89 : BitVec 32 := 1#32
  let arg21 : BitVec 32 := Scf.iv c0_i32_87 c1_i32_89 k0_t3
  let c1024_i32_104 : BitVec 32 := 1024#32
  let v160 : BitVec 32 := Scalar.muli arg21 c1024_i32_104
  v160
def k0_off8 (k0_t3 : Fin k0_t3_loop.trips) : Fin 2 → Nat :=
  let c0_i32_87 : BitVec 32 := 0#32
  let c1_i32_89 : BitVec 32 := 1#32
  let arg21 : BitVec 32 := Scf.iv c0_i32_87 c1_i32_89 k0_t3
  let c1024_i32_104 : BitVec 32 := 1024#32
  let v160 : BitVec 32 := Scalar.muli arg21 c1024_i32_104
  let v161 : BitVec 32 := v160
  let v162 : Index := Scalar.indexCast v161
  let c0_105 : Index := 0#32
  ![v162.toNat, 0]
@[reducible] def k0_t4_loop : Scf.Loop 32 :=
  let c0_i32_100 : BitVec 32 := 0#32
  let c32_i32_101 : BitVec 32 := 32#32
  let v159 : BitVec 32 := Scalar.addi c0_i32_100 c32_i32_101
  let c1_i32_102 : BitVec 32 := 1#32
  ⟨c0_i32_100, v159, c1_i32_102⟩
def k0_mult8 (k0_t4 : Fin k0_t4_loop.trips) : BitVec 32 :=
  let c0_i32_100 : BitVec 32 := 0#32
  let c1_i32_102 : BitVec 32 := 1#32
  let arg21 : BitVec 32 := Scf.iv c0_i32_100 c1_i32_102 k0_t4
  let c1024_i32_104 : BitVec 32 := 1024#32
  let v160 : BitVec 32 := Scalar.muli arg21 c1024_i32_104
  v160
def k0_off9 (k0_t4 : Fin k0_t4_loop.trips) : Fin 2 → Nat :=
  let c0_i32_100 : BitVec 32 := 0#32
  let c1_i32_102 : BitVec 32 := 1#32
  let arg21 : BitVec 32 := Scf.iv c0_i32_100 c1_i32_102 k0_t4
  let c1024_i32_104 : BitVec 32 := 1024#32
  let v160 : BitVec 32 := Scalar.muli arg21 c1024_i32_104
  let v161 : BitVec 32 := v160
  let v162 : Index := Scalar.indexCast v161
  let c0_105 : Index := 0#32
  ![v162.toNat, 0]
def k0_off10 (k0_t4 : Fin k0_t4_loop.trips) : Fin 2 → Nat :=
  let c0_116 : Index := 0#32
  let c0_i32_100 : BitVec 32 := 0#32
  let c1_i32_102 : BitVec 32 := 1#32
  let arg21 : BitVec 32 := Scf.iv c0_i32_100 c1_i32_102 k0_t4
  let c1024_i32_104 : BitVec 32 := 1024#32
  let v160 : BitVec 32 := Scalar.muli arg21 c1024_i32_104
  let v161 : BitVec 32 := v160
  let v179 : Index := Scalar.indexCast v161
  ![0, v179.toNat]
def cc0_transform_0 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.divsi arg1 c5_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg1 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let v17 : BitVec 32 := Scalar.muli arg0 c5_i32_4
  let c5_i32_5 : BitVec 32 := 5#32
  let c0_i32_6 : BitVec 32 := 0#32
  let v18 : BitVec 1 := Scalar.cmpi .eq c5_i32_5 c0_i32_6
  let c1_i32_7 : BitVec 32 := 1#32
  let v19 : BitVec 32 := Scalar.select v18 c1_i32_7 c5_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_11 : BitVec 32 := 0#32
  let c0_i32_12 : BitVec 32 := 0#32
  let c0_i32_13 : BitVec 32 := 0#32
  ![v16.toNat, v28.toNat, c0_i32_11.toNat, c0_i32_12.toNat]

def cc0_transform_1 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.divsi arg1 c5_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg1 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let v17 : BitVec 32 := Scalar.muli arg0 c5_i32_4
  let c5_i32_5 : BitVec 32 := 5#32
  let c0_i32_6 : BitVec 32 := 0#32
  let v18 : BitVec 1 := Scalar.cmpi .eq c5_i32_5 c0_i32_6
  let c1_i32_7 : BitVec 32 := 1#32
  let v19 : BitVec 32 := Scalar.select v18 c1_i32_7 c5_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_11 : BitVec 32 := 0#32
  let c0_i32_12 : BitVec 32 := 0#32
  let c0_i32_13 : BitVec 32 := 0#32
  ![v16.toNat, v28.toNat, c0_i32_11.toNat, c0_i32_12.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.divsi arg1 c5_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg1 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, arg0.toNat, c0_i32_4.toNat, c0_i32_5.toNat]

def cc0_transform_7 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.divsi arg1 c5_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg1 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, arg0.toNat, c0_i32_4.toNat, c0_i32_5.toNat]

def cc0_transform_8 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.divsi arg1 c5_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg1 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, arg0.toNat, c0_i32_4.toNat, c0_i32_5.toNat]

def cc0_transform_9 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.divsi arg1 c5_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg1 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, arg0.toNat, c0_i32_4.toNat, c0_i32_5.toNat]

def cc0_transform_10 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.divsi arg1 c5_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg1 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let v17 : BitVec 32 := Scalar.muli arg0 c5_i32_4
  let c5_i32_5 : BitVec 32 := 5#32
  let c0_i32_6 : BitVec 32 := 0#32
  let v18 : BitVec 1 := Scalar.cmpi .eq c5_i32_5 c0_i32_6
  let c1_i32_7 : BitVec 32 := 1#32
  let v19 : BitVec 32 := Scalar.select v18 c1_i32_7 c5_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_11 : BitVec 32 := 0#32
  let c0_i32_12 : BitVec 32 := 0#32
  ![v16.toNat, c0_i32_11.toNat, v28.toNat]

def cc0_transform_11 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.divsi arg1 c5_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg1 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let v17 : BitVec 32 := Scalar.muli arg0 c5_i32_4
  let c5_i32_5 : BitVec 32 := 5#32
  let c0_i32_6 : BitVec 32 := 0#32
  let v18 : BitVec 1 := Scalar.cmpi .eq c5_i32_5 c0_i32_6
  let c1_i32_7 : BitVec 32 := 1#32
  let v19 : BitVec 32 := Scalar.select v18 c1_i32_7 c5_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_11 : BitVec 32 := 0#32
  let c0_i32_12 : BitVec 32 := 0#32
  let c0_i32_13 : BitVec 32 := 0#32
  ![v16.toNat, v28.toNat, c0_i32_11.toNat, c0_i32_12.toNat]

def cc0_transform_12 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.divsi arg1 c5_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg1 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let v17 : BitVec 32 := Scalar.muli arg0 c5_i32_4
  let c5_i32_5 : BitVec 32 := 5#32
  let c0_i32_6 : BitVec 32 := 0#32
  let v18 : BitVec 1 := Scalar.cmpi .eq c5_i32_5 c0_i32_6
  let c1_i32_7 : BitVec 32 := 1#32
  let v19 : BitVec 32 := Scalar.select v18 c1_i32_7 c5_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_11 : BitVec 32 := 0#32
  let c0_i32_12 : BitVec 32 := 0#32
  let c0_i32_13 : BitVec 32 := 0#32
  ![v16.toNat, v28.toNat, c0_i32_11.toNat, c0_i32_12.toNat]

abbrev stage0_0 : Fin 2 → Memref sig .tc .vmem S1x1x512x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32768x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32768x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S4x512x40x128 : Shape := ⟨4, ![4, 512, 40, 128]⟩
abbrev S4x512x40 : Shape := ⟨3, ![4, 512, 40]⟩
abbrev S32768x8x128 : Shape := ⟨3, ![32768, 8, 128]⟩
abbrev S256x8x128 : Shape := ⟨3, ![256, 8, 128]⟩
abbrev S4x512x8x128 : Shape := ⟨4, ![4, 512, 8, 128]⟩
abbrev S4x512x8 : Shape := ⟨3, ![4, 512, 8]⟩
abbrev S256x128x8x128 : Shape := ⟨4, ![256, 128, 8, 128]⟩
abbrev S256x1x8x128 : Shape := ⟨4, ![256, 1, 8, 128]⟩
abbrev S4x512x8x5x128 : Shape := ⟨5, ![4, 512, 8, 5, 128]⟩
abbrev S_ : Shape := ⟨0, ![]⟩
abbrev S4x512x8x5 : Shape := ⟨4, ![4, 512, 8, 5]⟩
abbrev S8x32768x4x512x5 : Shape := ⟨5, ![8, 32768, 4, 512, 5]⟩
abbrev S4x512x8x5x32768 : Shape := ⟨5, ![4, 512, 8, 5, 32768]⟩
abbrev S4x512x8x5x1 : Shape := ⟨5, ![4, 512, 8, 5, 1]⟩
abbrev S8x128x4x512x5 : Shape := ⟨5, ![8, 128, 4, 512, 5]⟩
abbrev S4x8x512x512x5 : Shape := ⟨5, ![4, 8, 512, 512, 5]⟩
abbrev S4x512x8x5x512 : Shape := ⟨5, ![4, 512, 8, 5, 512]⟩
abbrev S4x8x512 : Shape := ⟨3, ![4, 8, 512]⟩
abbrev S4x1x8x1x512 : Shape := ⟨5, ![4, 1, 8, 1, 512]⟩
abbrev S512 : Shape := ⟨1, ![512]⟩
abbrev S512x1x1x1 : Shape := ⟨4, ![512, 1, 1, 1]⟩
abbrev S1x1x1x512 : Shape := ⟨4, ![1, 1, 1, 512]⟩
abbrev S512x1x1x512 : Shape := ⟨4, ![512, 1, 1, 512]⟩
abbrev S4x8x128x512x5 : Shape := ⟨5, ![4, 8, 128, 512, 5]⟩
abbrev S4x512x5120 : Shape := ⟨3, ![4, 512, 5120]⟩
abbrev S1x512x1 : Shape := ⟨3, ![1, 512, 1]⟩

abbrev nBuf : Space → Nat
  | .hbm => 124
  | .vmem => 10
  | .smem => 0
  | _ => 0

abbrev bufTy : (tb : Table) → Fin (tcTables nBuf tb) → BufTy
  | .hbm, ⟨0, _⟩ => ⟨S4x512x40x128, .fp8e4m3⟩
  | .hbm, ⟨1, _⟩ => ⟨S4x512x40, .f32⟩
  | .hbm, ⟨2, _⟩ => ⟨S32768x8x128, .fp8e4m3⟩
  | .hbm, ⟨3, _⟩ => ⟨S32768x8x128, .fp8e4m3⟩
  | .hbm, ⟨4, _⟩ => ⟨S256x8x128, .f32⟩
  | .hbm, ⟨5, _⟩ => ⟨S256x8x128, .f32⟩
  | .hbm, ⟨6, _⟩ => ⟨S4x512x8x128, .fp8e4m3⟩
  | .hbm, ⟨7, _⟩ => ⟨S4x512x8x128, .fp8e4m3⟩
  | .hbm, ⟨8, _⟩ => ⟨S4x512x8, .f32⟩
  | .hbm, ⟨9, _⟩ => ⟨S4x512x8, .f32⟩
  | .hbm, ⟨10, _⟩ => ⟨S4x512x40x128, .bf16⟩
  | .hbm, ⟨11, _⟩ => ⟨S32768x8x128, .bf16⟩
  | .hbm, ⟨12, _⟩ => ⟨S32768x8x128, .bf16⟩
  | .hbm, ⟨13, _⟩ => ⟨S4x512x8x128, .bf16⟩
  | .hbm, ⟨14, _⟩ => ⟨S4x512x8x128, .bf16⟩
  | .hbm, ⟨15, _⟩ => ⟨S256x128x8x128, .bf16⟩
  | .hbm, ⟨16, _⟩ => ⟨S256x8x128, .bf16⟩
  | .hbm, ⟨17, _⟩ => ⟨S256x1x8x128, .bf16⟩
  | .hbm, ⟨18, _⟩ => ⟨S256x128x8x128, .bf16⟩
  | .hbm, ⟨19, _⟩ => ⟨S256x128x8x128, .bf16⟩
  | .hbm, ⟨20, _⟩ => ⟨S32768x8x128, .bf16⟩
  | .hbm, ⟨21, _⟩ => ⟨S256x128x8x128, .bf16⟩
  | .hbm, ⟨22, _⟩ => ⟨S256x8x128, .bf16⟩
  | .hbm, ⟨23, _⟩ => ⟨S256x1x8x128, .bf16⟩
  | .hbm, ⟨24, _⟩ => ⟨S256x128x8x128, .bf16⟩
  | .hbm, ⟨25, _⟩ => ⟨S256x128x8x128, .bf16⟩
  | .hbm, ⟨26, _⟩ => ⟨S32768x8x128, .bf16⟩
  | .hbm, ⟨27, _⟩ => ⟨S4x512x8x5x128, .bf16⟩
  | .hbm, ⟨28, _⟩ => ⟨S_, .f32⟩
  | .hbm, ⟨29, _⟩ => ⟨S4x512x40, .f32⟩
  | .hbm, ⟨30, _⟩ => ⟨S4x512x40, .f32⟩
  | .hbm, ⟨31, _⟩ => ⟨S4x512x8x5, .f32⟩
  | .hbm, ⟨32, _⟩ => ⟨S8x32768x4x512x5, .f32⟩
  | .hbm, ⟨33, _⟩ => ⟨S4x512x8x5x32768, .f32⟩
  | .hbm, ⟨34, _⟩ => ⟨S4x512x8x5x1, .f32⟩
  | .hbm, ⟨35, _⟩ => ⟨S4x512x8x5x32768, .f32⟩
  | .hbm, ⟨36, _⟩ => ⟨S4x512x8x5x32768, .f32⟩
  | .hbm, ⟨37, _⟩ => ⟨S_, .f32⟩
  | .hbm, ⟨38, _⟩ => ⟨S4x512x8x5, .f32⟩
  | .hbm, ⟨39, _⟩ => ⟨S4x512x8x5x1, .f32⟩
  | .hbm, ⟨40, _⟩ => ⟨S4x512x8x5x32768, .f32⟩
  | .hbm, ⟨41, _⟩ => ⟨S4x512x8x5x32768, .f32⟩
  | .hbm, ⟨42, _⟩ => ⟨S4x512x8x5x32768, .f32⟩
  | .hbm, ⟨43, _⟩ => ⟨S_, .f32⟩
  | .hbm, ⟨44, _⟩ => ⟨S4x512x8x5, .f32⟩
  | .hbm, ⟨45, _⟩ => ⟨S4x512x8x5x32768, .bf16⟩
  | .hbm, ⟨46, _⟩ => ⟨S8x128x4x512x5, .f32⟩
  | .hbm, ⟨47, _⟩ => ⟨S4x512x8x5x128, .f32⟩
  | .hbm, ⟨48, _⟩ => ⟨S4x512x8x5x1, .f32⟩
  | .hbm, ⟨49, _⟩ => ⟨S4x512x8x5x128, .f32⟩
  | .hbm, ⟨50, _⟩ => ⟨S4x512x8x5x128, .f32⟩
  | .hbm, ⟨51, _⟩ => ⟨S4x512x8x5, .f32⟩
  | .hbm, ⟨52, _⟩ => ⟨S4x512x8x5, .f32⟩
  | .hbm, ⟨53, _⟩ => ⟨S4x8x512x512x5, .f32⟩
  | .hbm, ⟨54, _⟩ => ⟨S4x512x8x5x512, .f32⟩
  | .hbm, ⟨55, _⟩ => ⟨S4x512x8x5x1, .f32⟩
  | .hbm, ⟨56, _⟩ => ⟨S4x512x8x5x512, .f32⟩
  | .hbm, ⟨57, _⟩ => ⟨S4x512x8x5x512, .f32⟩
  | .hbm, ⟨58, _⟩ => ⟨S4x8x512, .f32⟩
  | .hbm, ⟨59, _⟩ => ⟨S4x1x8x1x512, .f32⟩
  | .hbm, ⟨60, _⟩ => ⟨S4x512x8x5x512, .f32⟩
  | .hbm, ⟨61, _⟩ => ⟨S4x512x8x5x512, .f32⟩
  | .hbm, ⟨62, _⟩ => ⟨S512, .i32⟩
  | .hbm, ⟨63, _⟩ => ⟨S512x1x1x1, .i32⟩
  | .hbm, ⟨64, _⟩ => ⟨S1x1x1x512, .i32⟩
  | .hbm, ⟨65, _⟩ => ⟨S512x1x1x512, .i32⟩
  | .hbm, ⟨66, _⟩ => ⟨S512x1x1x512, .i32⟩
  | .hbm, ⟨67, _⟩ => ⟨S512x1x1x512, .i1⟩
  | .hbm, ⟨68, _⟩ => ⟨S_, .f32⟩
  | .hbm, ⟨69, _⟩ => ⟨S_, .f32⟩
  | .hbm, ⟨70, _⟩ => ⟨S4x512x8x5x512, .i1⟩
  | .hbm, ⟨71, _⟩ => ⟨S4x512x8x5x512, .f32⟩
  | .hbm, ⟨72, _⟩ => ⟨S4x512x8x5x512, .f32⟩
  | .hbm, ⟨73, _⟩ => ⟨S_, .f32⟩
  | .hbm, ⟨74, _⟩ => ⟨S4x512x8x5, .f32⟩
  | .hbm, ⟨75, _⟩ => ⟨S4x512x8x5x1, .f32⟩
  | .hbm, ⟨76, _⟩ => ⟨S4x512x8x5x512, .f32⟩
  | .hbm, ⟨77, _⟩ => ⟨S4x512x8x5x512, .f32⟩
  | .hbm, ⟨78, _⟩ => ⟨S4x512x8x5x512, .f32⟩
  | .hbm, ⟨79, _⟩ => ⟨S_, .f32⟩
  | .hbm, ⟨80, _⟩ => ⟨S4x512x8x5, .f32⟩
  | .hbm, ⟨81, _⟩ => ⟨S4x8x512, .f32⟩
  | .hbm, ⟨82, _⟩ => ⟨S4x1x8x1x512, .f32⟩
  | .hbm, ⟨83, _⟩ => ⟨S4x512x8x5x512, .f32⟩
  | .hbm, ⟨84, _⟩ => ⟨S4x512x8x5x512, .f32⟩
  | .hbm, ⟨85, _⟩ => ⟨S4x512x8x5x512, .bf16⟩
  | .hbm, ⟨86, _⟩ => ⟨S4x8x128x512x5, .f32⟩
  | .hbm, ⟨87, _⟩ => ⟨S4x512x8x5x128, .f32⟩
  | .hbm, ⟨88, _⟩ => ⟨S4x512x8x5x1, .f32⟩
  | .hbm, ⟨89, _⟩ => ⟨S4x512x8x5x128, .f32⟩
  | .hbm, ⟨90, _⟩ => ⟨S4x512x8x5x128, .f32⟩
  | .hbm, ⟨91, _⟩ => ⟨S4x512x8x5, .f32⟩
  | .hbm, ⟨92, _⟩ => ⟨S4x512x8x5, .f32⟩
  | .hbm, ⟨93, _⟩ => ⟨S4x512x8x5, .f32⟩
  | .hbm, ⟨94, _⟩ => ⟨S4x512x8x5, .f32⟩
  | .hbm, ⟨95, _⟩ => ⟨S4x512x8x5, .f32⟩
  | .hbm, ⟨96, _⟩ => ⟨S4x512x8x5, .f32⟩
  | .hbm, ⟨97, _⟩ => ⟨S4x512x8x5, .f32⟩
  | .hbm, ⟨98, _⟩ => ⟨S4x512x8x5, .f32⟩
  | .hbm, ⟨99, _⟩ => ⟨S4x512x8x5, .f32⟩
  | .hbm, ⟨100, _⟩ => ⟨S4x512x8x5x1, .f32⟩
  | .hbm, ⟨101, _⟩ => ⟨S4x512x8x5x128, .f32⟩
  | .hbm, ⟨102, _⟩ => ⟨S4x512x8x5x128, .f32⟩
  | .hbm, ⟨103, _⟩ => ⟨S4x512x8x5, .f32⟩
  | .hbm, ⟨104, _⟩ => ⟨S4x512x8x5, .f32⟩
  | .hbm, ⟨105, _⟩ => ⟨S4x512x8x5x1, .f32⟩
  | .hbm, ⟨106, _⟩ => ⟨S4x512x8x5x128, .f32⟩
  | .hbm, ⟨107, _⟩ => ⟨S4x512x8x5x128, .f32⟩
  | .hbm, ⟨108, _⟩ => ⟨S4x512x8x5x128, .f32⟩
  | .hbm, ⟨109, _⟩ => ⟨S4x512x5120, .f32⟩
  | .hbm, ⟨110, _⟩ => ⟨S4x512x5120, .bf16⟩
  | .hbm, ⟨111, _⟩ => ⟨S4x512x40, .f32⟩
  | .hbm, ⟨112, _⟩ => ⟨S_, .f32⟩
  | .hbm, ⟨113, _⟩ => ⟨S4x512x40, .f32⟩
  | .hbm, ⟨114, _⟩ => ⟨S4x512x40, .f32⟩
  | .hbm, ⟨115, _⟩ => ⟨S4x512x40, .f32⟩
  | .hbm, ⟨116, _⟩ => ⟨S512, .f32⟩
  | .hbm, ⟨117, _⟩ => ⟨S_, .f32⟩
  | .hbm, ⟨118, _⟩ => ⟨S512, .f32⟩
  | .hbm, ⟨119, _⟩ => ⟨S512, .f32⟩
  | .hbm, ⟨120, _⟩ => ⟨S512, .f32⟩
  | .hbm, ⟨121, _⟩ => ⟨S1x512x1, .f32⟩
  | .hbm, ⟨122, _⟩ => ⟨S4x512x40, .f32⟩
  | .hbm, ⟨123, _⟩ => ⟨S4x512x40, .f32⟩
  | .local _ .vmem, ⟨0, _⟩ => ⟨S4x512x40x128, .fp8e4m3⟩
  | .local _ .vmem, ⟨1, _⟩ => ⟨S32768x8x128, .fp8e4m3⟩
  | .local _ .vmem, ⟨2, _⟩ => ⟨S32768x8x128, .fp8e4m3⟩
  | .local _ .vmem, ⟨3, _⟩ => ⟨S4x512x8x128, .fp8e4m3⟩
  | .local _ .vmem, ⟨4, _⟩ => ⟨S4x512x8x128, .fp8e4m3⟩
  | .local _ .vmem, ⟨5, _⟩ => ⟨S4x512x40x128, .bf16⟩
  | .local _ .vmem, ⟨6, _⟩ => ⟨S32768x8x128, .bf16⟩
  | .local _ .vmem, ⟨7, _⟩ => ⟨S32768x8x128, .bf16⟩
  | .local _ .vmem, ⟨8, _⟩ => ⟨S4x512x8x128, .bf16⟩
  | .local _ .vmem, ⟨9, _⟩ => ⟨S4x512x8x128, .bf16⟩
  | _, _ => ⟨S4x512x40x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_1 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_2 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v51 : Ref sig .tc := ⟨.hbm, 72, rfl⟩
abbrev main_cst_3 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_4 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_5 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_6 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4x512x40x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x8x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x8x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x8x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x512x8x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x512x40x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x8x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32768x8x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x512x8x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x512x8x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelFrame.lean ====
/-
  `Kernel`'s frame: the kernel body run once at any contents of its buffers, the three outputs forgotten, and the launch
  by the forgetting form of the frame run around the region.
-/
module

public import proofs.«01_k».proof.Proof.Gen.Kernel.Frame
public import proofs.«01_k».proof.Proof.Gen.Kernel.Skeleton
public import proofs.«01_k».proof.Proof.Gen.Kernel.Loops
public import Idealize.ShloMosaic.Lib.Claim
public import Idealize.ShloMosaic.Lib.Pipeline.Frame
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A memref's buffer on core `c`, whole, at contents `f`. -/
abbrev pt (c : Dev nD) {S : Shape} {e : EltTy} (M : Memref sig .tc .vmem S e) (f : Buf (Elt F) (M.view.loc (c : Thread nD τ))) : sProp 𝕄 :=
  M.view.loc (c : Thread nD τ) ↦[M.view.set]{fullShare} f

set_option maxHeartbeats 4000000 in
/-- The kernel's body at any contents of its buffers: it runs to its return, handing back the inputs as they were and the
    outputs and the scratch at some contents. -/
theorem kernelRun (c : Dev nD) (i : grid0.Coords) (arg2 : Memref sig .tc .vmem S1x1x512x128 .fp8e4m3) (harg2 : arg2.IsWhole) (arg3 : Memref sig .tc .vmem S1x1x1x512 .f32) (harg3 : arg3.IsWhole) (arg4 : Memref sig .tc .vmem S1x32768x128 .fp8e4m3) (harg4 : arg4.IsWhole) (arg5 : Memref sig .tc .vmem S1x32768x128 .fp8e4m3) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x1x512x128 .fp8e4m3) (harg8 : arg8.IsWhole) (arg9 : Memref sig .tc .vmem S1x1x512x128 .fp8e4m3) (harg9 : arg9.IsWhole) (arg10 : Memref sig .tc .vmem S1x1x512x1 .f32) (harg10 : arg10.IsWhole) (arg11 : Memref sig .tc .vmem S1x1x512x1 .f32) (harg11 : arg11.IsWhole) (arg12 : Memref sig .tc .vmem S1x512x128 .bf16) (harg12 : arg12.IsWhole) (arg13 : Memref sig .tc .vmem S1x1x1x512 .f32) (harg13 : arg13.IsWhole) (arg14 : Memref sig .tc .vmem S1x1x1x512 .f32) (harg14 : arg14.IsWhole) (arg15 : Memref sig .tc .vmem S32768x128 .bf16) (harg15 : arg15.IsWhole) (arg16 : Memref sig .tc .vmem S128x32768 .bf16) (harg16 : arg16.IsWhole) (arg17 : Memref sig .tc .vmem S512x128 .bf16) (harg17 : arg17.IsWhole) (arg18 : Memref sig .tc .vmem S128x512 .f32) (harg18 : arg18.IsWhole) (arg19 : Memref sig .tc .vmem S8x512 .f32) (harg19 : arg19.IsWhole) (arg20 : Memref sig .tc .vmem S1x512 .f32) (harg20 : arg20.IsWhole)
    (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (f20 : Buf (Elt F) (arg20.view.loc (c : Thread nD τ))) (K : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ (iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f)) -∗ K ⟨⟩))
      ⊢ wp frame (wpE (defs₀ (F := F)) Variants.none c none) Set.univ
          (cc0_shared_prompt_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_shared_prompt_attention_eq_skeleton]; unfold cc0_shared_prompt_attention_skel
  simp only [k0_part4_eq_skeleton, k0_part5_eq_skeleton, k0_part6_eq_skeleton, k0_part7_eq_skeleton]
  iintro ⟨H2, H3, H4, H5, H6, H7, H8, H9, H10, H11, H12, H13, H14, H15, H16, H17, H18, H19, H20, Hk⟩
  by_cases h1 : k0_cond1 i = 1#1
  · skip
    sl_exec
    split
    · sl_exec
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      iexists _; iexact H20
    · sl_exec
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      iexists _; iexact H20
  · skip
    sl_exec
    split
    · sl_exec
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      iexists _; iexact H20
    · sl_exec
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      iexists _; iexact H20

/-- Every window is forgotten: nothing here reads what the kernel leaves in one. -/
def forgets0 : Fin 13 → Bool := fun _ => true

/-- The proof data on core `c`: the arrays as the region finds them, what the body leaves unnamed, the class's invariant. -/
def fdats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- The proof data's arrays are those the host operations before the kernel leave. -/
theorem fA_eq (c : Dev nD) (w : Fin cfg0.W) : (fdats m 0 c).A w = V m c (Pipeline.arrRef spec0 w) := by dsimp only [fdats]

/-- What the body is called with at point `t`, every staging buffer at any contents, -/
def fbodyPre (c : Dev nD) (t : Fin cfg0.N) : sProp 𝕄 :=
  iprop((fdats m 0 c).Φ t.castSucc ∗ (fdats m 0 c).owesAt () t.castSucc
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))
/-- and what it returns. -/
def fbodyPost (c : Dev nD) (t : Fin cfg0.N) : sProp 𝕄 :=
  iprop((fdats m 0 c).Φ t.succ ∗ (fdats m 0 c).owesAt () t.succ
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))

/-- The body at any point: the scratch opened, `kernelRun`, the scratch closed. -/
theorem fsound_body (c : Dev nD) (t : Fin cfg0.N) :
    fbodyPre m c t ⊢ wp frame (wpE (defs₀ (F := F)) Variants.none c none) Set.univ (bodyAt0 t) (fun _ => fbodyPost m c t) := by
  unfold fbodyPre fbodyPost bodyAt0
  rw [show (fdats m 0 c).Φ t.succ = (fdats m 0 c).Φ t.castSucc from rfl,
    show (fdats m 0 c).owesAt () t.succ = (fdats m 0 c).owesAt () t.castSucc from rfl,
    show (fdats m 0 c).Φ t.castSucc = Pipeline.ΦA spec0 c from rfl]
  unfold Pipeline.ΦA
  rw [scopedRest0_eq]
  simp only [← owns_whole]
  unfold owns
  iintro ⟨⟨⟨⟨%d15, %f15, -, H15⟩, ⟨%d16, %f16, -, H16⟩, ⟨%d17, %f17, -, H17⟩, ⟨%d18, %f18, -, H18⟩, ⟨%d19, %f19, -, H19⟩, ⟨%d20, %f20, -, H20⟩⟩, Hg⟩, Ho, ⟨%d0, %f2, -, H2⟩, ⟨%d1, %f3, -, H3⟩, ⟨%d2, %f4, -, H4⟩, ⟨%d3, %f5, -, H5⟩, ⟨%d4, %f6, -, H6⟩, ⟨%d5, %f7, -, H7⟩, ⟨%d6, %f8, -, H8⟩, ⟨%d7, %f9, -, H9⟩, ⟨%d8, %f10, -, H10⟩, ⟨%d9, %f11, -, H11⟩, ⟨%d10, %f12, -, H12⟩, ⟨%d11, %f13, -, H13⟩, ⟨%d12, %f14, -, H14⟩⟩
  iapply (kernelRun c (grid0.coords t) _ _ _ _ _ _ _ _ _ _ _ _ _ _ _ _ _ _ _ _ _ _ _ _ _ _ _ _ _ _ _ _ _ _ _ _ _ _  _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H2, H3, H4, H5, H6, H7, H8, H9, H10, H11, ⟨%g12, H12⟩, ⟨%g13, H13⟩, ⟨%g14, H14⟩, ⟨%g15, H15⟩, ⟨%g16, H16⟩, ⟨%g17, H17⟩, ⟨%g18, H18⟩, ⟨%g19, H19⟩, ⟨%g20, H20⟩⟩
  isplitl [H15 H16 H17 H18 H19 H20 Hg]
  · isplitl [H15 H16 H17 H18 H19 H20]
    · isplitl [H15]; · iexists _, _; isplitr; swap; iexact H15; ipureintro; rfl
      isplitl [H16]; · iexists _, _; isplitr; swap; iexact H16; ipureintro; rfl
      isplitl [H17]; · iexists _, _; isplitr; swap; iexact H17; ipureintro; rfl
      isplitl [H18]; · iexists _, _; isplitr; swap; iexact H18; ipureintro; rfl
      isplitl [H19]; · iexists _, _; isplitr; swap; iexact H19; ipureintro; rfl
      iexists _, _; isplitr; swap; iexact H20; ipureintro; rfl
    iexact Hg
  isplitl [Ho]; · iexact Ho
  isplitl [H2]; · iexists _, _; isplitr; swap; iexact H2; ipureintro; rfl
  isplitl [H3]; · iexists _, _; isplitr; swap; iexact H3; ipureintro; rfl
  isplitl [H4]; · iexists _, _; isplitr; swap; iexact H4; ipureintro; rfl
  isplitl [H5]; · iexists _, _; isplitr; swap; iexact H5; ipureintro; rfl
  isplitl [H6]; · iexists _, _; isplitr; swap; iexact H6; ipureintro; rfl
  isplitl [H7]; · iexists _, _; isplitr; swap; iexact H7; ipureintro; rfl
  isplitl [H8]; · iexists _, _; isplitr; swap; iexact H8; ipureintro; rfl
  isplitl [H9]; · iexists _, _; isplitr; swap; iexact H9; ipureintro; rfl
  isplitl [H10]; · iexists _, _; isplitr; swap; iexact H10; ipureintro; rfl
  isplitl [H11]; · iexists _, _; isplitr; swap; iexact H11; ipureintro; rfl
  isplitl [H12]; · iexists _, _; isplitr; swap; iexact H12; ipureintro; rfl
  isplitl [H13]; · iexists _, _; isplitr; swap; iexact H13; ipureintro; rfl
  iexists _, _; isplitr; swap; iexact H14; ipureintro; rfl

/-- The body table's row at the point is the body as `bodyAt0` spells it. -/
theorem fdefs₀_row (t : Fin cfg0.N) : defs₀ (F := F) .tc cfg0.body (cfg0.bodyArgs t (cfg0.slots t)) = bodyAt0 t := by
  unfold defs₀; rw [Defs.onTc_tc]

/-- The library's body obligation with every window forgotten. -/
theorem fbody_obligation (c : Dev nD) :
    BodyObligation (fdats (F := F) m 0 c) (defs₀ (F := F)) Variants.none () Set.univ forgets0 := fun t => by
  rw [bigSep_W0, bigSep_W0, fdefs₀_row]
  exact triple_restated (fsound_body m c t) rfl .rfl fun _ => .rfl

/-- The buffers the host operations after the region write. -/
def tailW : Finset (Ref sig .tc) := {main_v14, main_v15, main_v16, main_v17}

/-- The host operations after the kernel write only those buffers. -/
theorem sfx_T : ∀ ops ∈ ([hostOps1] : List (List (HloOp τ sig (Elt F)))), ∀ op ∈ ops,
    ∀ b : Ref sig .tc, Proc.devRef .tc b ∈ op.writes → b ∈ tailW := by
  intro ops hops op hop b hb
  simp only [List.mem_cons, List.mem_nil_iff, or_false] at hops
  subst hops
  simp only [hostOps1, List.mem_cons, List.mem_nil_iff, or_false] at hop
  rcases hop with rfl | rfl | rfl | rfl <;>
    simp only [StableHlo.unary_writes, StableHlo.reshape_writes, Finset.mem_singleton] at hb <;>
    (have hb' := Proc.devRef_injective _ hb; subst hb'; decide)

set_option backward.isDefEq.respectTransparency.types false in
set_option maxHeartbeats 800000 in
/-- The launch: every unscoped buffer that is no window's array and that no later host operation writes ends as the
    region found it, and every semaphore counter at zero. -/
theorem frun_main :
    θ_run defs (onTc (τ := τ) (main (F := F))) (s₀ m ρ)
      (fun r => Pipeline.RDat.FramePostR (cfgs 0) (fun c => (fdats m 0 c).toRForget forgets0) tailW (V m) r ∧ r.2.sem = fun _ => 0) :=
  Pipeline.θ_run_frame_around_T_forget (Q' := _) cfgs (fdats m) (0 : Fin 1) launch0 defs₀ Variants.none forgets0 tailW m ρ main
    (hbody := fun c => (fbody_obligation m c).loose) (hshare := fun c => (fdats m 0 c).share_full fun _ => rfl)
    (howed := fun _ _ => rfl) (V₀ := V0 m) (opss := [hostOps1]) (hsub := sfx_sub) (hfresh := sfx_fresh) (hkeep := sfx_keeps)
    (hT := sfx_T) (hmain := hmain m Variants.none) (hA := fA_eq m) (hΦ := fun _ _ => rfl)

/-- What the host operations before the region left in an argument is the argument as launched; the run leaves it there. -/
theorem fkept {r : PUnit × MemSt nD τ sig (Elt F)}
    (h : Pipeline.RDat.FramePostR (cfgs 0) (fun c => (fdats (F := F) m 0 c).toRForget forgets0) tailW (V m) r) (c : Dev nD)
    (b : Ref sig .tc) (hb : b ∈ Pipeline.restRefs sig spec0 \ tailW) :
    r.2.mem ((c : Thread nD τ).loc b) = V m c b := (h c).2 b hb

/-- THE FRAME: every execution terminates with the arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨(fkept m h.1 c main_arg0 (by decide)).trans (V_main_arg0 m c),
      (fkept m h.1 c main_arg1 (by decide)).trans (V_main_arg1 m c),
      (fkept m h.1 c main_arg2 (by decide)).trans (V_main_arg2 m c),
      (fkept m h.1 c main_arg3 (by decide)).trans (V_main_arg3 m c),
      (fkept m h.1 c main_arg4 (by decide)).trans (V_main_arg4 m c),
      (fkept m h.1 c main_arg5 (by decide)).trans (V_main_arg5 m c),
      (fkept m h.1 c main_arg6 (by decide)).trans (V_main_arg6 m c),
      (fkept m h.1 c main_arg7 (by decide)).trans (V_main_arg7 m c),
      (fkept m h.1 c main_arg8 (by decide)).trans (V_main_arg8 m c),
      (fkept m h.1 c main_arg9 (by decide)).trans (V_main_arg9 m c)⟩, h.2⟩) (frun_main m ρ)

end Cert.Kernel.Hand

end
-- ==== Proof.KernelIdealFrame.lean ====
/-
  `KernelIdeal`'s frame: the kernel body run once at any contents of its buffers, the three outputs forgotten, and the launch
  by the forgetting form of the frame run around the region.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A memref's buffer on core `c`, whole, at contents `f`. -/
abbrev pt (c : Dev nD) {S : Shape} {e : EltTy} (M : Memref sig .tc .vmem S e) (f : Buf (Elt F) (M.view.loc (c : Thread nD τ))) : sProp 𝕄 :=
  M.view.loc (c : Thread nD τ) ↦[M.view.set]{fullShare} f

set_option maxHeartbeats 4000000 in
/-- The kernel's body at any contents of its buffers: it runs to its return, handing back the inputs as they were and the
    outputs and the scratch at some contents. -/
theorem kernelRun (c : Dev nD) (i : grid0.Coords) (arg2 : Memref sig .tc .vmem S1x1x512x128 .fp8e4m3) (harg2 : arg2.IsWhole) (arg3 : Memref sig .tc .vmem S1x1x1x512 .f32) (harg3 : arg3.IsWhole) (arg4 : Memref sig .tc .vmem S1x32768x128 .fp8e4m3) (harg4 : arg4.IsWhole) (arg5 : Memref sig .tc .vmem S1x32768x128 .fp8e4m3) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x1x512x128 .fp8e4m3) (harg8 : arg8.IsWhole) (arg9 : Memref sig .tc .vmem S1x1x512x128 .fp8e4m3) (harg9 : arg9.IsWhole) (arg10 : Memref sig .tc .vmem S1x1x512x1 .f32) (harg10 : arg10.IsWhole) (arg11 : Memref sig .tc .vmem S1x1x512x1 .f32) (harg11 : arg11.IsWhole) (arg12 : Memref sig .tc .vmem S1x512x128 .bf16) (harg12 : arg12.IsWhole) (arg13 : Memref sig .tc .vmem S1x1x1x512 .f32) (harg13 : arg13.IsWhole) (arg14 : Memref sig .tc .vmem S1x1x1x512 .f32) (harg14 : arg14.IsWhole) (arg15 : Memref sig .tc .vmem S32768x128 .bf16) (harg15 : arg15.IsWhole) (arg16 : Memref sig .tc .vmem S128x32768 .bf16) (harg16 : arg16.IsWhole) (arg17 : Memref sig .tc .vmem S512x128 .bf16) (harg17 : arg17.IsWhole) (arg18 : Memref sig .tc .vmem S128x512 .f32) (harg18 : arg18.IsWhole) (arg19 : Memref sig .tc .vmem S8x512 .f32) (harg19 : arg19.IsWhole) (arg20 : Memref sig .tc .vmem S1x512 .f32) (harg20 : arg20.IsWhole)
    (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (f20 : Buf (Elt F) (arg20.view.loc (c : Thread nD τ))) (K : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ (iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f)) -∗ K ⟨⟩))
      ⊢ wp frame (wpE (defs₀ (F := F)) Variants.none c none) Set.univ
          (cc0_shared_prompt_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_shared_prompt_attention_eq_skeleton]; unfold cc0_shared_prompt_attention_skel
  simp only [k0_part4_eq_skeleton, k0_part5_eq_skeleton, k0_part6_eq_skeleton, k0_part7_eq_skeleton]
  iintro ⟨H2, H3, H4, H5, H6, H7, H8, H9, H10, H11, H12, H13, H14, H15, H16, H17, H18, H19, H20, Hk⟩
  by_cases h1 : k0_cond1 i = 1#1
  · skip
    sl_exec
    split
    · sl_exec
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      iexists _; iexact H20
    · sl_exec
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      iexists _; iexact H20
  · skip
    sl_exec
    split
    · sl_exec
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      iexists _; iexact H20
    · sl_exec
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      iexists _; iexact H20

/-- Every window is forgotten: nothing here reads what the kernel leaves in one. -/
def forgets0 : Fin 13 → Bool := fun _ => true

/-- The proof data on core `c`: the arrays as the region finds them, what the body leaves unnamed, the class's invariant. -/
def fdats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- The proof data's arrays are those the host operations before the kernel leave. -/
theorem fA_eq (c : Dev nD) (w : Fin cfg0.W) : (fdats m 0 c).A w = V m c (Pipeline.arrRef spec0 w) := by dsimp only [fdats]

/-- What the body is called with at point `t`, every staging buffer at any contents, -/
def fbodyPre (c : Dev nD) (t : Fin cfg0.N) : sProp 𝕄 :=
  iprop((fdats m 0 c).Φ t.castSucc ∗ (fdats m 0 c).owesAt () t.castSucc
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))
/-- and what it returns. -/
def fbodyPost (c : Dev nD) (t : Fin cfg0.N) : sProp 𝕄 :=
  iprop((fdats m 0 c).Φ t.succ ∗ (fdats m 0 c).owesAt () t.succ
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))

/-- The body at any point: the scratch opened, `kernelRun`, the scratch closed. -/
theorem fsound_body (c : Dev nD) (t : Fin cfg0.N) :
    fbodyPre m c t ⊢ wp frame (wpE (defs₀ (F := F)) Variants.none c none) Set.univ (bodyAt0 t) (fun _ => fbodyPost m c t) := by
  unfold fbodyPre fbodyPost bodyAt0
  rw [show (fdats m 0 c).Φ t.succ = (fdats m 0 c).Φ t.castSucc from rfl,
    show (fdats m 0 c).owesAt () t.succ = (fdats m 0 c).owesAt () t.castSucc from rfl,
    show (fdats m 0 c).Φ t.castSucc = Pipeline.ΦA spec0 c from rfl]
  unfold Pipeline.ΦA
  rw [scopedRest0_eq]
  simp only [← owns_whole]
  unfold owns
  iintro ⟨⟨⟨⟨%d15, %f15, -, H15⟩, ⟨%d16, %f16, -, H16⟩, ⟨%d17, %f17, -, H17⟩, ⟨%d18, %f18, -, H18⟩, ⟨%d19, %f19, -, H19⟩, ⟨%d20, %f20, -, H20⟩⟩, Hg⟩, Ho, ⟨%d0, %f2, -, H2⟩, ⟨%d1, %f3, -, H3⟩, ⟨%d2, %f4, -, H4⟩, ⟨%d3, %f5, -, H5⟩, ⟨%d4, %f6, -, H6⟩, ⟨%d5, %f7, -, H7⟩, ⟨%d6, %f8, -, H8⟩, ⟨%d7, %f9, -, H9⟩, ⟨%d8, %f10, -, H10⟩, ⟨%d9, %f11, -, H11⟩, ⟨%d10, %f12, -, H12⟩, ⟨%d11, %f13, -, H13⟩, ⟨%d12, %f14, -, H14⟩⟩
  iapply (kernelRun c (grid0.coords t) _ _ _ _ _ _ _ _ _ _ _ _ _ _ _ _ _ _ _ _ _ _ _ _ _ _ _ _ _ _ _ _ _ _ _ _ _ _  _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H2, H3, H4, H5, H6, H7, H8, H9, H10, H11, ⟨%g12, H12⟩, ⟨%g13, H13⟩, ⟨%g14, H14⟩, ⟨%g15, H15⟩, ⟨%g16, H16⟩, ⟨%g17, H17⟩, ⟨%g18, H18⟩, ⟨%g19, H19⟩, ⟨%g20, H20⟩⟩
  isplitl [H15 H16 H17 H18 H19 H20 Hg]
  · isplitl [H15 H16 H17 H18 H19 H20]
    · isplitl [H15]; · iexists _, _; isplitr; swap; iexact H15; ipureintro; rfl
      isplitl [H16]; · iexists _, _; isplitr; swap; iexact H16; ipureintro; rfl
      isplitl [H17]; · iexists _, _; isplitr; swap; iexact H17; ipureintro; rfl
      isplitl [H18]; · iexists _, _; isplitr; swap; iexact H18; ipureintro; rfl
      isplitl [H19]; · iexists _, _; isplitr; swap; iexact H19; ipureintro; rfl
      iexists _, _; isplitr; swap; iexact H20; ipureintro; rfl
    iexact Hg
  isplitl [Ho]; · iexact Ho
  isplitl [H2]; · iexists _, _; isplitr; swap; iexact H2; ipureintro; rfl
  isplitl [H3]; · iexists _, _; isplitr; swap; iexact H3; ipureintro; rfl
  isplitl [H4]; · iexists _, _; isplitr; swap; iexact H4; ipureintro; rfl
  isplitl [H5]; · iexists _, _; isplitr; swap; iexact H5; ipureintro; rfl
  isplitl [H6]; · iexists _, _; isplitr; swap; iexact H6; ipureintro; rfl
  isplitl [H7]; · iexists _, _; isplitr; swap; iexact H7; ipureintro; rfl
  isplitl [H8]; · iexists _, _; isplitr; swap; iexact H8; ipureintro; rfl
  isplitl [H9]; · iexists _, _; isplitr; swap; iexact H9; ipureintro; rfl
  isplitl [H10]; · iexists _, _; isplitr; swap; iexact H10; ipureintro; rfl
  isplitl [H11]; · iexists _, _; isplitr; swap; iexact H11; ipureintro; rfl
  isplitl [H12]; · iexists _, _; isplitr; swap; iexact H12; ipureintro; rfl
  isplitl [H13]; · iexists _, _; isplitr; swap; iexact H13; ipureintro; rfl
  iexists _, _; isplitr; swap; iexact H14; ipureintro; rfl

/-- The body table's row at the point is the body as `bodyAt0` spells it. -/
theorem fdefs₀_row (t : Fin cfg0.N) : defs₀ (F := F) .tc cfg0.body (cfg0.bodyArgs t (cfg0.slots t)) = bodyAt0 t := by
  unfold defs₀; rw [Defs.onTc_tc]

/-- The library's body obligation with every window forgotten. -/
theorem fbody_obligation (c : Dev nD) :
    BodyObligation (fdats (F := F) m 0 c) (defs₀ (F := F)) Variants.none () Set.univ forgets0 := fun t => by
  rw [bigSep_W0, bigSep_W0, fdefs₀_row]
  exact triple_restated (fsound_body m c t) rfl .rfl fun _ => .rfl

/-- The buffers the host operations after the region write. -/
def tailW : Finset (Ref sig .tc) := {main_v14, main_v15, main_v16, main_v17}

/-- The host operations after the kernel write only those buffers. -/
theorem sfx_T : ∀ ops ∈ ([hostOps1] : List (List (HloOp τ sig (Elt F)))), ∀ op ∈ ops,
    ∀ b : Ref sig .tc, Proc.devRef .tc b ∈ op.writes → b ∈ tailW := by
  intro ops hops op hop b hb
  simp only [List.mem_cons, List.mem_nil_iff, or_false] at hops
  subst hops
  simp only [hostOps1, List.mem_cons, List.mem_nil_iff, or_false] at hop
  rcases hop with rfl | rfl | rfl | rfl <;>
    simp only [StableHlo.unary_writes, StableHlo.reshape_writes, Finset.mem_singleton] at hb <;>
    (have hb' := Proc.devRef_injective _ hb; subst hb'; decide)

set_option backward.isDefEq.respectTransparency.types false in
set_option maxHeartbeats 800000 in
/-- The launch: every unscoped buffer that is no window's array and that no later host operation writes ends as the
    region found it, and every semaphore counter at zero. -/
theorem frun_main :
    θ_run defs (onTc (τ := τ) (main (F := F))) (s₀ m ρ)
      (fun r => Pipeline.RDat.FramePostR (cfgs 0) (fun c => (fdats m 0 c).toRForget forgets0) tailW (V m) r ∧ r.2.sem = fun _ => 0) :=
  Pipeline.θ_run_frame_around_T_forget (Q' := _) cfgs (fdats m) (0 : Fin 1) launch0 defs₀ Variants.none forgets0 tailW m ρ main
    (hbody := fun c => (fbody_obligation m c).loose) (hshare := fun c => (fdats m 0 c).share_full fun _ => rfl)
    (howed := fun _ _ => rfl) (V₀ := V0 m) (opss := [hostOps1]) (hsub := sfx_sub) (hfresh := sfx_fresh) (hkeep := sfx_keeps)
    (hT := sfx_T) (hmain := hmain m Variants.none) (hA := fA_eq m) (hΦ := fun _ _ => rfl)

/-- What the host operations before the region left in an argument is the argument as launched; the run leaves it there. -/
theorem fkept {r : PUnit × MemSt nD τ sig (Elt F)}
    (h : Pipeline.RDat.FramePostR (cfgs 0) (fun c => (fdats (F := F) m 0 c).toRForget forgets0) tailW (V m) r) (c : Dev nD)
    (b : Ref sig .tc) (hb : b ∈ Pipeline.restRefs sig spec0 \ tailW) :
    r.2.mem ((c : Thread nD τ).loc b) = V m c b := (h c).2 b hb

/-- THE FRAME: every execution terminates with the arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨(fkept m h.1 c main_arg0 (by decide)).trans (V_main_arg0 m c),
      (fkept m h.1 c main_arg1 (by decide)).trans (V_main_arg1 m c),
      (fkept m h.1 c main_arg2 (by decide)).trans (V_main_arg2 m c),
      (fkept m h.1 c main_arg3 (by decide)).trans (V_main_arg3 m c),
      (fkept m h.1 c main_arg4 (by decide)).trans (V_main_arg4 m c),
      (fkept m h.1 c main_arg5 (by decide)).trans (V_main_arg5 m c),
      (fkept m h.1 c main_arg6 (by decide)).trans (V_main_arg6 m c),
      (fkept m h.1 c main_arg7 (by decide)).trans (V_main_arg7 m c),
      (fkept m h.1 c main_arg8 (by decide)).trans (V_main_arg8 m c),
      (fkept m h.1 c main_arg9 (by decide)).trans (V_main_arg9 m c)⟩, h.2⟩) (frun_main m ρ)

end Cert.KernelIdeal.Hand

end
-- ==== Proof.Body.lean ====
/-
  The kernel's body with values: what one grid point leaves in its outputs and in the scratch, over the payloads of the
  program.
-/
module

public import proofs.«01_k».proof.Proof.Gen.KernelIdeal.Frame
public import proofs.«01_k».proof.Proof.Gen.KernelIdeal.Skeleton
public import Idealize.ShloMosaic.Lib.Claim
public import Idealize.ShloMosaic.Lib.VecWindow
public import Idealize.ShloMosaic.Lib.WritesUnit
public import Idealize.ShloMosaic.Lib.Pipeline.Frame
public import Idealize.ShloMosaic.Lib.Pointwise
public import Idealize.ShloMosaic.Lib.Tactic
public import Idealize.ShloMosaic.PureOps.Ideal
public import Idealize.ShloMosaic.PureOps.Ideal.Laws

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- A memref's buffer on core `c`, whole, at contents `f`. -/
abbrev pt (c : Dev nD) {S : Shape} {e : EltTy} (M : Memref sig .tc .vmem S e) (f : Buf (Elt Ideal) (M.view.loc (c : Thread nD τ))) : sProp 𝕄 :=
  M.view.loc (c : Thread nD τ) ↦[M.view.set]{fullShare} f

/-- Block `k` of 1024 rows of the dequantised keys. -/
def rowBlk (K : Vec Ideal S32768x128 .bf16) (k : ℕ) : Vec Ideal S1024x128 .bf16 :=
  fun y => K (ix2 (⟨(1024 * k + (y 0).val) % 32768, Nat.mod_lt _ (by decide)⟩ : Fin 32768) (y 1))

/-- Block `k` of 1024 columns of the transposed dequantised values. -/
def colBlk (V : Vec Ideal S128x32768 .bf16) (k : ℕ) : Vec Ideal S128x1024 .bf16 :=
  fun y => V (ix2 (y 0) (⟨(1024 * k + (y 1).val) % 32768, Nat.mod_lt _ (by decide)⟩ : Fin 32768))

/-- The sum buffer after `k` blocks, from `l0`. -/
def l2 (v14 v28 : FVec Ideal S1x512 .f32) (K : Vec Ideal S32768x128 .bf16) (Q : Vec Ideal S512x128 .bf16) (l0 : Vec Ideal S8x512 .f32) :
    ℕ → Vec Ideal S8x512 .f32
  | 0 => l0
  | k + 1 => k0_pay22 v14 v28 (rowBlk K k) Q (l2 v14 v28 K Q l0 k)

/-- The weighted-values buffer after `k` blocks, from `a0`. -/
def a2 (v14 v28 : FVec Ideal S1x512 .f32) (K : Vec Ideal S32768x128 .bf16) (V : Vec Ideal S128x32768 .bf16) (Q : Vec Ideal S512x128 .bf16)
    (a0 : Vec Ideal S128x512 .f32) : ℕ → Vec Ideal S128x512 .f32
  | 0 => a0
  | k + 1 => k0_pay23 v14 v28 (rowBlk K k) Q (a2 v14 v28 K V Q a0 k) (colBlk V k)

/-- The running maximum after `k` blocks, from `m0`. -/
def m3 (v14 : FVec Ideal S1x512 .f32) (K : Vec Ideal S32768x128 .bf16) (Q : Vec Ideal S512x128 .bf16) (m0 : FVec Ideal S8x512 .f32) :
    ℕ → FVec Ideal S8x512 .f32
  | 0 => m0
  | k + 1 => k0_pay26 v14 (m3 v14 K Q m0 k) (rowBlk K k) Q

/-- The sum buffer after `k` blocks of the second pass, from `l0`. -/
def l4 (v14 : FVec Ideal S1x512 .f32) (v145 : FVec Ideal S8x512 .f32) (K : Vec Ideal S32768x128 .bf16) (Q : Vec Ideal S512x128 .bf16)
    (l0 : Vec Ideal S8x512 .f32) : ℕ → Vec Ideal S8x512 .f32
  | 0 => l0
  | k + 1 => k0_pay32 v14 v145 (rowBlk K k) Q (l4 v14 v145 K Q l0 k)

/-- The weighted-values buffer after `k` blocks of the second pass, from `a0`. -/
def a4 (v14 : FVec Ideal S1x512 .f32) (v145 : FVec Ideal S8x512 .f32) (K : Vec Ideal S32768x128 .bf16) (V : Vec Ideal S128x32768 .bf16)
    (Q : Vec Ideal S512x128 .bf16) (a0 : Vec Ideal S128x512 .f32) : ℕ → Vec Ideal S128x512 .f32
  | 0 => a0
  | k + 1 => k0_pay33 v14 v145 (rowBlk K k) Q (a4 v14 v145 K V Q a0 k) (colBlk V k)

/-- A load of 1024 rows is the block. -/
theorem readAt_row (v : View sig .tc .vmem S32768x128 .bf16) (f : v.ty.Contents (Elt Ideal)) (k : ℕ) (hk : k < 32)
    (off : Fin 2 → ℕ) (h : off = ![1024 * k, 0]) (inb : ∀ a, off a + S1024x128.size a ≤ S32768x128.size a) :
    v.readAt (Elt Ideal) (Rect.unit (s := S32768x128) off S1024x128.size inb).toLoadRect f = rowBlk (v.read (Elt Ideal) f) k := by
  subst h
  rw [View.readAt_unit v f inb rfl inb]
  funext y
  refine congrArg (v.read (Elt Ideal) f) (funext fun a => Fin.ext ?_)
  have h0 : (y 0).val < 1024 := (y 0).isLt
  match a with
  | ⟨0, _⟩ => show 1024 * k + 1 * (y 0).val = (1024 * k + (y 0).val) % 32768; omega
  | ⟨1, _⟩ => show 0 + 1 * (y 1).val = (y 1).val; omega

/-- A load of 1024 columns is the block. -/
theorem readAt_col (v : View sig .tc .vmem S128x32768 .bf16) (f : v.ty.Contents (Elt Ideal)) (k : ℕ) (hk : k < 32)
    (off : Fin 2 → ℕ) (h : off = ![0, 1024 * k]) (inb : ∀ a, off a + S128x1024.size a ≤ S128x32768.size a) :
    v.readAt (Elt Ideal) (Rect.unit (s := S128x32768) off S128x1024.size inb).toLoadRect f = colBlk (v.read (Elt Ideal) f) k := by
  subst h
  rw [View.readAt_unit v f inb rfl inb]
  funext y
  refine congrArg (v.read (Elt Ideal) f) (funext fun a => Fin.ext ?_)
  have h0 : (y 1).val < 1024 := (y 1).isLt
  match a with
  | ⟨1, _⟩ => show 1024 * k + 1 * (y 1).val = (1024 * k + (y 1).val) % 32768; omega
  | ⟨0, _⟩ => show 0 + 1 * (y 0).val = (y 0).val; omega

section full
variable {κ : Kind} {sp : Space} {e : EltTy}

/-- A load of a whole `S8x512` buffer reads it, -/
theorem rd_S8x512 (v : View sig κ sp S8x512 e) (f : v.ty.Contents (Elt Ideal)) (inb : ∀ a, ![0, 0] a + ![8, 512] a ≤ S8x512.size a) :
    v.readAt (Elt Ideal) (Rect.unit (s := S8x512) ![0, 0] ![8, 512] inb).toLoadRect f = v.read (Elt Ideal) f := View.readAt_full v f inb
/-- and a store of the whole buffer leaves what it stores. -/
theorem wr_S8x512 (v : View sig κ sp S8x512 e) (f : v.ty.Contents (Elt Ideal)) (inb : ∀ a, ![0, 0] a + ![8, 512] a ≤ S8x512.size a)
    (w : (Rect.unit (s := S8x512) ![0, 0] ![8, 512] inb).shape.Idx → Elt Ideal e) (L : List (View.Piece (Elt Ideal) S8x512 e)) :
    v.read (Elt Ideal) (v.writes (Elt Ideal) f (⟨Rect.unit (s := S8x512) ![0, 0] ![8, 512] inb, w⟩ :: L)) = w := View.read_writes_full v f inb w L

/-- A load of a whole `S128x512` buffer reads it, -/
theorem rd_S128x512 (v : View sig κ sp S128x512 e) (f : v.ty.Contents (Elt Ideal)) (inb : ∀ a, ![0, 0] a + ![128, 512] a ≤ S128x512.size a) :
    v.readAt (Elt Ideal) (Rect.unit (s := S128x512) ![0, 0] ![128, 512] inb).toLoadRect f = v.read (Elt Ideal) f := View.readAt_full v f inb
/-- and a store of the whole buffer leaves what it stores. -/
theorem wr_S128x512 (v : View sig κ sp S128x512 e) (f : v.ty.Contents (Elt Ideal)) (inb : ∀ a, ![0, 0] a + ![128, 512] a ≤ S128x512.size a)
    (w : (Rect.unit (s := S128x512) ![0, 0] ![128, 512] inb).shape.Idx → Elt Ideal e) (L : List (View.Piece (Elt Ideal) S128x512 e)) :
    v.read (Elt Ideal) (v.writes (Elt Ideal) f (⟨Rect.unit (s := S128x512) ![0, 0] ![128, 512] inb, w⟩ :: L)) = w := View.read_writes_full v f inb w L

/-- A load of a whole `S512x128` buffer reads it, -/
theorem rd_S512x128 (v : View sig κ sp S512x128 e) (f : v.ty.Contents (Elt Ideal)) (inb : ∀ a, ![0, 0] a + ![512, 128] a ≤ S512x128.size a) :
    v.readAt (Elt Ideal) (Rect.unit (s := S512x128) ![0, 0] ![512, 128] inb).toLoadRect f = v.read (Elt Ideal) f := View.readAt_full v f inb
/-- and a store of the whole buffer leaves what it stores. -/
theorem wr_S512x128 (v : View sig κ sp S512x128 e) (f : v.ty.Contents (Elt Ideal)) (inb : ∀ a, ![0, 0] a + ![512, 128] a ≤ S512x128.size a)
    (w : (Rect.unit (s := S512x128) ![0, 0] ![512, 128] inb).shape.Idx → Elt Ideal e) (L : List (View.Piece (Elt Ideal) S512x128 e)) :
    v.read (Elt Ideal) (v.writes (Elt Ideal) f (⟨Rect.unit (s := S512x128) ![0, 0] ![512, 128] inb, w⟩ :: L)) = w := View.read_writes_full v f inb w L

/-- A load of a whole `S1x512` buffer reads it, -/
theorem rd_S1x512 (v : View sig κ sp S1x512 e) (f : v.ty.Contents (Elt Ideal)) (inb : ∀ a, ![0, 0] a + ![1, 512] a ≤ S1x512.size a) :
    v.readAt (Elt Ideal) (Rect.unit (s := S1x512) ![0, 0] ![1, 512] inb).toLoadRect f = v.read (Elt Ideal) f := View.readAt_full v f inb
/-- and a store of the whole buffer leaves what it stores. -/
theorem wr_S1x512 (v : View sig κ sp S1x512 e) (f : v.ty.Contents (Elt Ideal)) (inb : ∀ a, ![0, 0] a + ![1, 512] a ≤ S1x512.size a)
    (w : (Rect.unit (s := S1x512) ![0, 0] ![1, 512] inb).shape.Idx → Elt Ideal e) (L : List (View.Piece (Elt Ideal) S1x512 e)) :
    v.read (Elt Ideal) (v.writes (Elt Ideal) f (⟨Rect.unit (s := S1x512) ![0, 0] ![1, 512] inb, w⟩ :: L)) = w := View.read_writes_full v f inb w L

/-- A load of a whole `S1x1x1x512` buffer reads it, -/
theorem rd_S1x1x1x512 (v : View sig κ sp S1x1x1x512 e) (f : v.ty.Contents (Elt Ideal)) (inb : ∀ a, ![0, 0, 0, 0] a + ![1, 1, 1, 512] a ≤ S1x1x1x512.size a) :
    v.readAt (Elt Ideal) (Rect.unit (s := S1x1x1x512) ![0, 0, 0, 0] ![1, 1, 1, 512] inb).toLoadRect f = v.read (Elt Ideal) f := View.readAt_full v f inb
/-- and a store of the whole buffer leaves what it stores. -/
theorem wr_S1x1x1x512 (v : View sig κ sp S1x1x1x512 e) (f : v.ty.Contents (Elt Ideal)) (inb : ∀ a, ![0, 0, 0, 0] a + ![1, 1, 1, 512] a ≤ S1x1x1x512.size a)
    (w : (Rect.unit (s := S1x1x1x512) ![0, 0, 0, 0] ![1, 1, 1, 512] inb).shape.Idx → Elt Ideal e) (L : List (View.Piece (Elt Ideal) S1x1x1x512 e)) :
    v.read (Elt Ideal) (v.writes (Elt Ideal) f (⟨Rect.unit (s := S1x1x1x512) ![0, 0, 0, 0] ![1, 1, 1, 512] inb, w⟩ :: L)) = w := View.read_writes_full v f inb w L

/-- A load of a whole `S1x512x128` buffer reads it, -/
theorem rd_S1x512x128 (v : View sig κ sp S1x512x128 e) (f : v.ty.Contents (Elt Ideal)) (inb : ∀ a, ![0, 0, 0] a + ![1, 512, 128] a ≤ S1x512x128.size a) :
    v.readAt (Elt Ideal) (Rect.unit (s := S1x512x128) ![0, 0, 0] ![1, 512, 128] inb).toLoadRect f = v.read (Elt Ideal) f := View.readAt_full v f inb
/-- and a store of the whole buffer leaves what it stores. -/
theorem wr_S1x512x128 (v : View sig κ sp S1x512x128 e) (f : v.ty.Contents (Elt Ideal)) (inb : ∀ a, ![0, 0, 0] a + ![1, 512, 128] a ≤ S1x512x128.size a)
    (w : (Rect.unit (s := S1x512x128) ![0, 0, 0] ![1, 512, 128] inb).shape.Idx → Elt Ideal e) (L : List (View.Piece (Elt Ideal) S1x512x128 e)) :
    v.read (Elt Ideal) (v.writes (Elt Ideal) f (⟨Rect.unit (s := S1x512x128) ![0, 0, 0] ![1, 512, 128] inb, w⟩ :: L)) = w := View.read_writes_full v f inb w L

/-- A load of a whole `S1x1x512x128` buffer reads it, -/
theorem rd_S1x1x512x128 (v : View sig κ sp S1x1x512x128 e) (f : v.ty.Contents (Elt Ideal)) (inb : ∀ a, ![0, 0, 0, 0] a + ![1, 1, 512, 128] a ≤ S1x1x512x128.size a) :
    v.readAt (Elt Ideal) (Rect.unit (s := S1x1x512x128) ![0, 0, 0, 0] ![1, 1, 512, 128] inb).toLoadRect f = v.read (Elt Ideal) f := View.readAt_full v f inb

/-- A load of a whole `S1x1x512x1` buffer reads it, -/
theorem rd_S1x1x512x1 (v : View sig κ sp S1x1x512x1 e) (f : v.ty.Contents (Elt Ideal)) (inb : ∀ a, ![0, 0, 0, 0] a + ![1, 1, 512, 1] a ≤ S1x1x512x1.size a) :
    v.readAt (Elt Ideal) (Rect.unit (s := S1x1x512x1) ![0, 0, 0, 0] ![1, 1, 512, 1] inb).toLoadRect f = v.read (Elt Ideal) f := View.readAt_full v f inb

end full

set_option warn.classDefReducibility false in
set_option maxHeartbeats 4000000 in
@[sl_loop] def inv2 (c : Dev nD) (i : grid0.Coords) (arg2 : Memref sig .tc .vmem S1x1x512x128 .fp8e4m3) (harg2 : arg2.IsWhole) (arg3 : Memref sig .tc .vmem S1x1x1x512 .f32) (harg3 : arg3.IsWhole) (arg4 : Memref sig .tc .vmem S1x32768x128 .fp8e4m3) (harg4 : arg4.IsWhole) (arg5 : Memref sig .tc .vmem S1x32768x128 .fp8e4m3) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x1x512x128 .fp8e4m3) (harg8 : arg8.IsWhole) (arg9 : Memref sig .tc .vmem S1x1x512x128 .fp8e4m3) (harg9 : arg9.IsWhole) (arg10 : Memref sig .tc .vmem S1x1x512x1 .f32) (harg10 : arg10.IsWhole) (arg11 : Memref sig .tc .vmem S1x1x512x1 .f32) (harg11 : arg11.IsWhole) (arg12 : Memref sig .tc .vmem S1x512x128 .bf16) (harg12 : arg12.IsWhole) (arg13 : Memref sig .tc .vmem S1x1x1x512 .f32) (harg13 : arg13.IsWhole) (arg14 : Memref sig .tc .vmem S1x1x1x512 .f32) (harg14 : arg14.IsWhole) (arg15 : Memref sig .tc .vmem S32768x128 .bf16) (harg15 : arg15.IsWhole) (arg16 : Memref sig .tc .vmem S128x32768 .bf16) (harg16 : arg16.IsWhole) (arg17 : Memref sig .tc .vmem S512x128 .bf16) (harg17 : arg17.IsWhole) (arg18 : Memref sig .tc .vmem S128x512 .f32) (harg18 : arg18.IsWhole) (arg19 : Memref sig .tc .vmem S8x512 .f32) (harg19 : arg19.IsWhole) (arg20 : Memref sig .tc .vmem S1x512 .f32) (harg20 : arg20.IsWhole) (v14 : FVec Ideal S1x512 .f32) (v28 : FVec Ideal S1x512 .f32) (v29 : Vec Ideal S1x512 .f32)
    (X15 : Buf (Elt Ideal) (arg15.view.loc (c : Thread nD τ))) (X16 : Buf (Elt Ideal) (arg16.view.loc (c : Thread nD τ))) (X17 : Buf (Elt Ideal) (arg17.view.loc (c : Thread nD τ))) (G18 : Buf (Elt Ideal) (arg18.view.loc (c : Thread nD τ))) (G19 : Buf (Elt Ideal) (arg19.view.loc (c : Thread nD τ))) :
    Idealize.ShloMosaic.LoopInv (M := MT nD τ sig Unit (Elt Ideal) ℕ (UR sig nD τ) ℕ) Idealize.ShloMosaic.frame (wpE defs₀ Variants.none (c : Thread nD τ) none) Set.univ
    k0_t2_loop.lb k0_t2_loop.ub k0_t2_loop.st k0_t2_ok () (k0_t2_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v14 v28 v29) where
  inv := fun k _ => iprop(pt c arg15 X15 ∗ pt c arg16 X16 ∗ pt c arg17 X17 ∗ (∃ f, pt c arg18 f ∗ ⌜arg18.view.read (Elt Ideal) f = a2 v14 v28 (arg15.view.read (Elt Ideal) X15) (arg16.view.read (Elt Ideal) X16) (arg17.view.read (Elt Ideal) X17) (arg18.view.read (Elt Ideal) G18) k⌝) ∗ (∃ f, pt c arg19 f ∗ ⌜arg19.view.read (Elt Ideal) f = l2 v14 v28 (arg15.view.read (Elt Ideal) X15) (arg17.view.read (Elt Ideal) X17) (arg19.view.read (Elt Ideal) G19) k⌝))
  step k acc := by
    have hk : k.val < 32 := Nat.lt_of_lt_of_le k.isLt k0_t2_abs.2.1
    unfold k0_t2_body
    iintro ⟨H15, H16, H17, ⟨%f18, H18, %h18⟩, ⟨%f19, H19, %h19⟩⟩
    sl_exec
    sl_step
    isplitl [H15]; · iexact H15
    isplitl [H16]; · iexact H16
    isplitl [H17]; · iexact H17
    isplitl [H18]
    · iexists _; isplitl [H18]; · iexact H18
      ipureintro
      simp only [wr_S8x512, wr_S128x512, rd_S8x512, rd_S128x512, rd_S512x128, readAt_row _ _ _ hk _ (k0_off6_eq k), readAt_col _ _ _ hk _ (k0_off7_eq k), a2, h18]
    · iexists _; isplitl [H19]; · iexact H19
      ipureintro
      simp only [wr_S8x512, wr_S128x512, rd_S8x512, rd_S128x512, rd_S512x128, readAt_row _ _ _ hk _ (k0_off6_eq k), l2, h19]

set_option warn.classDefReducibility false in
set_option maxHeartbeats 4000000 in
@[sl_loop] def inv3 (c : Dev nD) (i : grid0.Coords) (arg2 : Memref sig .tc .vmem S1x1x512x128 .fp8e4m3) (harg2 : arg2.IsWhole) (arg3 : Memref sig .tc .vmem S1x1x1x512 .f32) (harg3 : arg3.IsWhole) (arg4 : Memref sig .tc .vmem S1x32768x128 .fp8e4m3) (harg4 : arg4.IsWhole) (arg5 : Memref sig .tc .vmem S1x32768x128 .fp8e4m3) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x1x512x128 .fp8e4m3) (harg8 : arg8.IsWhole) (arg9 : Memref sig .tc .vmem S1x1x512x128 .fp8e4m3) (harg9 : arg9.IsWhole) (arg10 : Memref sig .tc .vmem S1x1x512x1 .f32) (harg10 : arg10.IsWhole) (arg11 : Memref sig .tc .vmem S1x1x512x1 .f32) (harg11 : arg11.IsWhole) (arg12 : Memref sig .tc .vmem S1x512x128 .bf16) (harg12 : arg12.IsWhole) (arg13 : Memref sig .tc .vmem S1x1x1x512 .f32) (harg13 : arg13.IsWhole) (arg14 : Memref sig .tc .vmem S1x1x1x512 .f32) (harg14 : arg14.IsWhole) (arg15 : Memref sig .tc .vmem S32768x128 .bf16) (harg15 : arg15.IsWhole) (arg16 : Memref sig .tc .vmem S128x32768 .bf16) (harg16 : arg16.IsWhole) (arg17 : Memref sig .tc .vmem S512x128 .bf16) (harg17 : arg17.IsWhole) (arg18 : Memref sig .tc .vmem S128x512 .f32) (harg18 : arg18.IsWhole) (arg19 : Memref sig .tc .vmem S8x512 .f32) (harg19 : arg19.IsWhole) (arg20 : Memref sig .tc .vmem S1x512 .f32) (harg20 : arg20.IsWhole) (v4 : FVec Ideal S512x128 .fp8e4m3) (v12 : FVec Ideal S1x512 .f32) (v14 : FVec Ideal S1x512 .f32) (v62 : BitVec 1) (init : FVec Ideal S8x512 .f32)
    (X15 : Buf (Elt Ideal) (arg15.view.loc (c : Thread nD τ))) (X17 : Buf (Elt Ideal) (arg17.view.loc (c : Thread nD τ))) :
    Idealize.ShloMosaic.LoopInv (M := MT nD τ sig Unit (Elt Ideal) ℕ (UR sig nD τ) ℕ) Idealize.ShloMosaic.frame (wpE defs₀ Variants.none (c : Thread nD τ) none) Set.univ
    k0_t3_loop.lb k0_t3_loop.ub k0_t3_loop.st k0_t3_ok init (k0_t3_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v12 v14 v62) where
  inv := fun k acc => iprop(pt c arg15 X15 ∗ pt c arg17 X17 ∗ ⌜acc = m3 v14 (arg15.view.read (Elt Ideal) X15) (arg17.view.read (Elt Ideal) X17) init k⌝)
  step k acc := by
    have hk : k.val < 32 := Nat.lt_of_lt_of_le k.isLt k0_t3_abs.2.1
    unfold k0_t3_body
    iintro ⟨H15, H17, %hacc⟩
    sl_exec
    sl_step
    isplitl [H15]; · iexact H15
    isplitl [H17]; · iexact H17
    ipureintro
    simp only [rd_S8x512, rd_S128x512, rd_S512x128, readAt_row _ _ _ hk _ (k0_off8_eq k), m3, hacc]

set_option warn.classDefReducibility false in
set_option maxHeartbeats 4000000 in
@[sl_loop] def inv4 (c : Dev nD) (i : grid0.Coords) (arg2 : Memref sig .tc .vmem S1x1x512x128 .fp8e4m3) (harg2 : arg2.IsWhole) (arg3 : Memref sig .tc .vmem S1x1x1x512 .f32) (harg3 : arg3.IsWhole) (arg4 : Memref sig .tc .vmem S1x32768x128 .fp8e4m3) (harg4 : arg4.IsWhole) (arg5 : Memref sig .tc .vmem S1x32768x128 .fp8e4m3) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x1x512x128 .fp8e4m3) (harg8 : arg8.IsWhole) (arg9 : Memref sig .tc .vmem S1x1x512x128 .fp8e4m3) (harg9 : arg9.IsWhole) (arg10 : Memref sig .tc .vmem S1x1x512x1 .f32) (harg10 : arg10.IsWhole) (arg11 : Memref sig .tc .vmem S1x1x512x1 .f32) (harg11 : arg11.IsWhole) (arg12 : Memref sig .tc .vmem S1x512x128 .bf16) (harg12 : arg12.IsWhole) (arg13 : Memref sig .tc .vmem S1x1x1x512 .f32) (harg13 : arg13.IsWhole) (arg14 : Memref sig .tc .vmem S1x1x1x512 .f32) (harg14 : arg14.IsWhole) (arg15 : Memref sig .tc .vmem S32768x128 .bf16) (harg15 : arg15.IsWhole) (arg16 : Memref sig .tc .vmem S128x32768 .bf16) (harg16 : arg16.IsWhole) (arg17 : Memref sig .tc .vmem S512x128 .bf16) (harg17 : arg17.IsWhole) (arg18 : Memref sig .tc .vmem S128x512 .f32) (harg18 : arg18.IsWhole) (arg19 : Memref sig .tc .vmem S8x512 .f32) (harg19 : arg19.IsWhole) (arg20 : Memref sig .tc .vmem S1x512 .f32) (harg20 : arg20.IsWhole) (v4 : FVec Ideal S512x128 .fp8e4m3) (v12 : FVec Ideal S1x512 .f32) (v14 : FVec Ideal S1x512 .f32) (v62 : BitVec 1) (v145 : FVec Ideal S8x512 .f32)
    (X15 : Buf (Elt Ideal) (arg15.view.loc (c : Thread nD τ))) (X16 : Buf (Elt Ideal) (arg16.view.loc (c : Thread nD τ))) (X17 : Buf (Elt Ideal) (arg17.view.loc (c : Thread nD τ))) (G18 : Buf (Elt Ideal) (arg18.view.loc (c : Thread nD τ))) (G19 : Buf (Elt Ideal) (arg19.view.loc (c : Thread nD τ))) :
    Idealize.ShloMosaic.LoopInv (M := MT nD τ sig Unit (Elt Ideal) ℕ (UR sig nD τ) ℕ) Idealize.ShloMosaic.frame (wpE defs₀ Variants.none (c : Thread nD τ) none) Set.univ
    k0_t4_loop.lb k0_t4_loop.ub k0_t4_loop.st k0_t4_ok () (k0_t4_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v4 v12 v14 v62 v145) where
  inv := fun k _ => iprop(pt c arg15 X15 ∗ pt c arg16 X16 ∗ pt c arg17 X17 ∗ (∃ f, pt c arg18 f ∗ ⌜arg18.view.read (Elt Ideal) f = a4 v14 v145 (arg15.view.read (Elt Ideal) X15) (arg16.view.read (Elt Ideal) X16) (arg17.view.read (Elt Ideal) X17) (arg18.view.read (Elt Ideal) G18) k⌝) ∗ (∃ f, pt c arg19 f ∗ ⌜arg19.view.read (Elt Ideal) f = l4 v14 v145 (arg15.view.read (Elt Ideal) X15) (arg17.view.read (Elt Ideal) X17) (arg19.view.read (Elt Ideal) G19) k⌝))
  step k acc := by
    have hk : k.val < 32 := Nat.lt_of_lt_of_le k.isLt k0_t4_abs.2.1
    unfold k0_t4_body
    iintro ⟨H15, H16, H17, ⟨%f18, H18, %h18⟩, ⟨%f19, H19, %h19⟩⟩
    sl_exec
    sl_step
    isplitl [H15]; · iexact H15
    isplitl [H16]; · iexact H16
    isplitl [H17]; · iexact H17
    isplitl [H18]
    · iexists _; isplitl [H18]; · iexact H18
      ipureintro
      simp only [wr_S8x512, wr_S128x512, rd_S8x512, rd_S128x512, rd_S512x128, readAt_row _ _ _ hk _ (k0_off9_eq k), readAt_col _ _ _ hk _ (k0_off10_eq k), a4, h18]
    · iexists _; isplitl [H19]; · iexact H19
      ipureintro
      simp only [wr_S8x512, wr_S128x512, rd_S8x512, rd_S128x512, rd_S512x128, readAt_row _ _ _ hk _ (k0_off9_eq k), l4, h19]

end Cert.KernelIdeal.Val

end
-- ==== Proof.Math.lean ====
/-
  The mathematics of the claim, over the extended reals: the softmax of a row of scores, its log-sum-exp, what a shift other
  than the row's maximum changes, and the combination of two attentions by their log-sum-exps.
-/
module

public import Idealize.ShloMosaic.PureOps.Ideal
public import Idealize.ShloMosaic.PureOps.Ideal.Laws

@[expose] public section

noncomputable section

namespace Cert.Attn

open Idealize.ShloMosaic

variable {n : ℕ}

/-- The greatest score of a row. -/
def mx (s : Fin n → EReal) : EReal := Finset.univ.sup s
/-- A row's weights: the exponential of the score less the greatest. -/
def wt (s : Fin n → EReal) (p : Fin n) : EReal := Ideal.exp (s p - mx s)
/-- The sum of a row's weights. -/
def sm (s : Fin n → EReal) : EReal := ∑ p, wt s p
/-- A row's log-sum-exp. -/
def lse (s : Fin n → EReal) : EReal := mx s + Ideal.log (sm s)

/-- Every score is at most the greatest. -/
theorem le_mx (s : Fin n → EReal) (p : Fin n) : s p ≤ mx s := Finset.le_sup (Finset.mem_univ p)

/-- The greatest score is one of the scores. -/
theorem exists_mx (hn : 0 < n) (s : Fin n → EReal) : ∃ p, mx s = s p := by
  obtain ⟨p, _, h⟩ := Finset.exists_mem_eq_sup (Finset.univ : Finset (Fin n)) ⟨⟨0, hn⟩, Finset.mem_univ _⟩ s
  exact ⟨p, h⟩

/-- An infinite greatest score makes every weight zero. -/
theorem wt_zero_of_inf (s : Fin n → EReal) (h : mx s = ⊤ ∨ mx s = ⊥) (p : Fin n) : wt s p = 0 := by
  unfold wt
  rcases h with h | h
  · rw [h, EReal.sub_top]; rfl
  · have : s p = ⊥ := le_bot_iff.mp (h ▸ le_mx s p)
    rw [this, EReal.bot_sub]; rfl

/-- A weight of a row whose greatest score is real is a real between zero and one. -/
theorem wt_real (s : Fin n → EReal) {M : ℝ} (h : mx s = M) (p : Fin n) : ∃ w : ℝ, 0 ≤ w ∧ wt s p = w := by
  have hle := le_mx s p
  unfold wt
  rw [h] at hle ⊢
  generalize s p = x at hle
  induction x using EReal.rec with
  | bot => exact ⟨0, le_rfl, by rw [EReal.bot_sub]; rfl⟩
  | top => exact absurd hle (by simp)
  | coe x => exact ⟨Real.exp (x - M), (Real.exp_pos _).le, by rw [← EReal.coe_sub]; rfl⟩

/-- A row's sum and log-sum-exp: zero and `⊥` if the greatest score is infinite, else reals. -/
theorem row_cases (hn : 0 < n) (s : Fin n → EReal) :
    ((mx s = ⊤ ∨ mx s = ⊥) ∧ (∀ p, wt s p = 0) ∧ sm s = 0 ∧ lse s = ⊥)
      ∨ ∃ M l : ℝ, mx s = M ∧ 0 < l ∧ sm s = l ∧ lse s = ((M + Real.log l : ℝ) : EReal) := by
  by_cases h : mx s = ⊤ ∨ mx s = ⊥
  · left
    have hw := wt_zero_of_inf s h
    have hs : sm s = 0 := Finset.sum_eq_zero fun p _ => hw p
    refine ⟨h, hw, hs, ?_⟩
    unfold lse
    rw [hs, show Ideal.log 0 = ⊥ from by
      rw [show (0 : EReal) = ((0 : ℝ) : EReal) from rfl, Ideal.log_coe, if_pos le_rfl], EReal.add_bot]
  · right
    push Not at h
    obtain ⟨M, hM⟩ : ∃ M : ℝ, mx s = M := ⟨(mx s).toReal, (EReal.coe_toReal h.1 h.2).symm⟩
    choose w hw0 hw using wt_real s hM
    obtain ⟨q, hq⟩ := exists_mx hn s
    have hwq : w q = 1 := by
      have := hw q
      unfold wt at this
      rw [← hq, hM, ← EReal.coe_sub, sub_self, Ideal.exp_coe, Real.exp_zero] at this
      exact_mod_cast this.symm
    have hs : sm s = ((∑ p, w p : ℝ) : EReal) := by
      unfold sm
      simp only [hw]
      exact (map_sum (⟨⟨Real.toEReal, rfl⟩, EReal.coe_add⟩ : ℝ →+ EReal) w Finset.univ).symm
    have hpos : 0 < ∑ p, w p :=
      Finset.sum_pos' (fun p _ => hw0 p) ⟨q, Finset.mem_univ q, by rw [hwq]; exact one_pos⟩
    refine ⟨M, ∑ p, w p, hM, hpos, hs, ?_⟩
    unfold lse
    rw [hs, hM, Ideal.log_coe, if_neg (not_le.mpr hpos), ← EReal.coe_add]

/-- A nonnegative real factor comes out of a sum of extended reals. -/
theorem sum_mul_real {ι : Type*} (t : Finset ι) (r : ℝ) (hr : 0 ≤ r) (f : ι → EReal) :
    ∑ p ∈ t, (r : EReal) * f p = (r : EReal) * ∑ p ∈ t, f p := by
  classical
  induction t using Finset.induction_on with
  | empty => simp
  | insert a t ha ih =>
    rw [Finset.sum_insert ha, Finset.sum_insert ha, ih,
      EReal.left_distrib_of_nonneg_of_ne_top (by exact_mod_cast hr) (EReal.coe_ne_top r)]

/-- A sum of nonnegative extended reals with a term `⊤` is `⊤`. -/
theorem sum_top {ι : Type*} (t : Finset ι) (f : ι → EReal) (h0 : ∀ p ∈ t, 0 ≤ f p) {q : ι} (hq : q ∈ t) (h : f q = ⊤) :
    ∑ p ∈ t, f p = ⊤ := top_le_iff.mp (h ▸ Finset.single_le_sum h0 hq)

/-- `exp2` is nonnegative. -/
theorem exp2_nonneg (x : EReal) : 0 ≤ Ideal.exp2 x := by
  induction x using EReal.rec with
  | bot => exact le_rfl
  | top => exact le_top
  | coe x => rw [Ideal.exp2_coe]; exact_mod_cast (Real.rpow_pos_of_pos two_pos x).le

/-- The logarithm of two as a factor of a real exponent of two. -/
theorem rpow_two (x : ℝ) : Real.rpow 2 x = Real.exp (x * Real.log 2) := by
  show (2 : ℝ) ^ x = _
  rw [Real.rpow_def_of_pos two_pos, mul_comm]

/-- The scale that turns `exp` into `exp2`. -/
abbrev L2 : ℝ := (Real.log 2)⁻¹

/-- The logarithm of two is positive. -/
theorem log2_pos : 0 < Real.log 2 := Real.log_pos one_lt_two
/-- Its inverse is positive. -/
theorem L2_pos : 0 < L2 := inv_pos.mpr log2_pos

/-- Scores rescaled to base two: the weights at any attained shift that loses nothing — the greatest score, or one at which
    the sum of the weights stays finite — are the row's softmax weights times one positive real, unless every weight on both
    sides is zero. -/
theorem shift_cases (hn : 0 < n) (s s2 : Fin n → EReal) (hs : ∀ p, s2 p = s p * (L2 : EReal)) (m2 : EReal)
    (hat : ∃ p, m2 = s2 p) (hm : m2 = mx s2 ∨ ∑ p, Ideal.exp2 (s2 p - m2) ≠ ⊤) :
    ((mx s = ⊤ ∨ mx s = ⊥) ∧ ∀ p, Ideal.exp2 (s2 p - m2) = 0)
      ∨ ∃ M m' : ℝ, mx s = M ∧ m2 = m' ∧
          ∀ p, Ideal.exp2 (s2 p - m2) = (Real.exp (M - m' * Real.log 2) : EReal) * wt s p := by
  have hL : (0 : EReal) < (L2 : EReal) := by exact_mod_cast L2_pos
  have hmono : ∀ p q, s p ≤ s q → s2 p ≤ s2 q := fun p q h => by
    rw [hs, hs]; exact mul_le_mul_of_nonneg_right h hL.le
  have hcoe : ∀ p (x : ℝ), s p = x → s2 p = ((x * L2 : ℝ) : EReal) := fun p x h => by rw [hs, h, ← EReal.coe_mul]
  have htop : ∀ p, s p = ⊤ → s2 p = ⊤ := fun p h => by rw [hs, h, EReal.top_mul_of_pos hL]
  have hbot : ∀ p, s p = ⊥ → s2 p = ⊥ := fun p h => by rw [hs, h, EReal.bot_mul_of_pos hL]
  obtain ⟨q, hq⟩ := exists_mx hn s
  have hmx2 : mx s2 = s2 q := le_antisymm
    (Finset.sup_le fun p _ => hmono p q (hq ▸ le_mx s p)) (le_mx s2 q)
  obtain ⟨p0, hp0⟩ := hat
  have hsum : ∀ p, Ideal.exp2 (s2 p - m2) = ⊤ → m2 = mx s2 := fun p h =>
    hm.resolve_right fun hne => hne (sum_top _ _ (fun _ _ => exp2_nonneg _) (Finset.mem_univ p) h)
  -- the shift is `⊤`, `⊥` or real
  induction m2 using EReal.rec with
  | top =>
    left
    have h0 : s p0 = ⊤ := by
      by_contra hne
      rcases eq_or_ne (s p0) ⊥ with hb | hb
      · rw [hbot p0 hb] at hp0; exact absurd hp0 (by simp)
      · have := hcoe p0 _ (EReal.coe_toReal hne hb).symm
        rw [this] at hp0; exact EReal.coe_ne_top _ hp0.symm
    exact ⟨.inl (top_le_iff.mp (h0 ▸ le_mx s p0)), fun p => by rw [EReal.sub_top]; rfl⟩
  | bot =>
    left
    have hall : ∀ p, s2 p = ⊥ := fun p => by
      by_contra hne
      have h1 : Ideal.exp2 (s2 p - ⊥) = ⊤ := by
        rw [sub_eq_add_neg, EReal.neg_bot, EReal.add_top_of_ne_bot hne]; rfl
      have h2 := hsum p h1
      exact hne (le_bot_iff.mp (h2 ▸ le_mx s2 p))
    have hq' : s q = ⊥ := by
      by_contra hne
      rcases eq_or_ne (s q) ⊤ with ht | ht
      · have := hall q; rw [htop q ht] at this; exact absurd this (by simp)
      · have := hall q; rw [hcoe q _ (EReal.coe_toReal ht hne).symm] at this; exact EReal.coe_ne_bot _ this
    exact ⟨.inr (hq.trans hq'), fun p => by rw [hall p, EReal.bot_sub]; rfl⟩
  | coe m' =>
    right
    have hnt : ∀ p, s p ≠ ⊤ := fun p ht => by
      have h1 : Ideal.exp2 (s2 p - (m' : EReal)) = ⊤ := by rw [htop p ht, EReal.top_sub_coe]; rfl
      have h2 := hsum p h1
      have h3 := le_mx s2 p
      rw [← h2, htop p ht] at h3
      exact EReal.coe_ne_top _ (top_le_iff.mp h3)
    have hqb : s q ≠ ⊥ := fun hb => by
      have h1 : s p0 = ⊥ := le_bot_iff.mp (hb ▸ hq ▸ le_mx s p0)
      rw [hbot p0 h1] at hp0
      exact EReal.coe_ne_bot _ hp0
    have hM : mx s = ((s q).toReal : EReal) := by rw [hq, EReal.coe_toReal (hnt q) hqb]
    refine ⟨(s q).toReal, m', hM, rfl, fun p => ?_⟩
    unfold wt
    rw [hM]
    rcases eq_or_ne (s p) ⊥ with hb | hb
    · rw [hbot p hb, hb, EReal.bot_sub, EReal.bot_sub]
      simp
    · have hx := (EReal.coe_toReal (hnt p) hb).symm
      rw [hcoe p _ hx, hx, ← EReal.coe_sub, ← EReal.coe_sub, Ideal.exp2_coe, Ideal.exp_coe, ← EReal.coe_mul, rpow_two,
        ← Real.exp_add]
      congr 2
      have := log2_pos.ne'
      unfold L2
      field_simp
      simp only [EReal.toReal_coe]
      ring

/-- A real factor of numerator and denominator cancels. -/
theorem div_real (x : EReal) {y : ℝ} (hy : y ≠ 0) : Ideal.div x (y : EReal) = x * ((1 / y : ℝ) : EReal) := Ideal.div_coe hy x

/-- What the kernel computes of a row at an attained shift that loses nothing: its log-sum-exp is the row's, -/
theorem lse_shift (hn : 0 < n) (s s2 : Fin n → EReal) (hs : ∀ p, s2 p = s p * (L2 : EReal)) (m2 : EReal)
    (hat : ∃ p, m2 = s2 p) (hm : m2 = mx s2 ∨ ∑ p, Ideal.exp2 (s2 p - m2) ≠ ⊤) :
    m2 * (Real.log 2 : EReal) + Ideal.log (∑ p, Ideal.exp2 (s2 p - m2)) = lse s := by
  rcases shift_cases hn s s2 hs m2 hat hm with ⟨hinf, hz⟩ | ⟨M, m', hM, hm', hw⟩
  · rcases row_cases hn s with ⟨_, _, _, hl⟩ | ⟨M, l, hM, _⟩
    · rw [hl, Finset.sum_eq_zero fun p _ => hz p, show Ideal.log 0 = ⊥ from by
        rw [show (0 : EReal) = ((0 : ℝ) : EReal) from rfl, Ideal.log_coe, if_pos le_rfl], EReal.add_bot]
    · rw [hM] at hinf; rcases hinf with h | h
      · exact absurd h (EReal.coe_ne_top _)
      · exact absurd h (EReal.coe_ne_bot _)
  · rcases row_cases hn s with ⟨hinf, _⟩ | ⟨M', l, hM', hl0, hl, hlse⟩
    · rw [hM] at hinf; rcases hinf with h | h
      · exact absurd h (EReal.coe_ne_top _)
      · exact absurd h (EReal.coe_ne_bot _)
    · have hMM : M' = M := by exact_mod_cast hM'.symm.trans hM
      subst hMM
      rw [Finset.sum_congr rfl fun p _ => hw p, sum_mul_real _ _ (Real.exp_pos _).le]
      change _ + Ideal.log (_ * sm s) = _
      rw [hl, hlse, hm', ← EReal.coe_mul, ← EReal.coe_mul, Ideal.log_coe,
        if_neg (not_le.mpr (mul_pos (Real.exp_pos _) hl0)), Real.log_mul (Real.exp_pos _).ne' hl0.ne', Real.log_exp,
        ← EReal.coe_add]
      congr 1; ring

/-- and the two attentions combined by their log-sum-exps are the softmax of the pair of log-sum-exps applied to the two
    normalised attentions. `os` is the second attention, `⊥` where its log-sum-exp is. -/
theorem out_shift (hn : 0 < n) (s s2 v : Fin n → EReal) (hs : ∀ p, s2 p = s p * (L2 : EReal)) (m2 : EReal)
    (hat : ∃ p, m2 = s2 p) (hm : m2 = mx s2 ∨ ∑ p, Ideal.exp2 (s2 p - m2) ≠ ⊤)
    (ls os : EReal) (hls : (ls = ⊥ ∧ os = ⊥) ∨ ∃ x : ℝ, ls = x) :
    (∑ p, v p * Ideal.exp2 (s2 p - m2))
          * Ideal.div (Ideal.exp (lse s - max (lse s) ls))
              ((Ideal.exp (lse s - max (lse s) ls) + Ideal.exp (ls - max (lse s) ls)) * ∑ p, Ideal.exp2 (s2 p - m2))
        + os * Ideal.div (Ideal.exp (ls - max (lse s) ls))
            (Ideal.exp (lse s - max (lse s) ls) + Ideal.exp (ls - max (lse s) ls))
      = Ideal.div (Ideal.exp (lse s - max (lse s) ls))
            (Ideal.exp (lse s - max (lse s) ls) + Ideal.exp (ls - max (lse s) ls))
          * Ideal.div (∑ p, v p * wt s p) (sm s)
        + Ideal.div (Ideal.exp (ls - max (lse s) ls))
            (Ideal.exp (lse s - max (lse s) ls) + Ideal.exp (ls - max (lse s) ls)) * os := by
  have e0 : Ideal.exp ⊥ = 0 := rfl
  have d00 : Ideal.div 0 0 = ⊥ := by unfold Ideal.div; simp
  have d01 : Ideal.div 0 1 = 0 := by
    rw [show (1 : EReal) = ((1 : ℝ) : EReal) from rfl, div_real _ one_ne_zero, zero_mul]
  have d11 : Ideal.div 1 1 = 1 := by
    rw [show (1 : EReal) = ((1 : ℝ) : EReal) from rfl, div_real _ one_ne_zero, ← EReal.coe_mul]; norm_num
  rcases shift_cases hn s s2 hs m2 hat hm with ⟨hinf, hz⟩ | ⟨M, m', hM, hm', hw⟩
  · obtain ⟨hwz, hsz, hl⟩ : (∀ p, wt s p = 0) ∧ sm s = 0 ∧ lse s = ⊥ := by
      rcases row_cases hn s with ⟨_, h⟩ | ⟨M, l, hM, _⟩
      · exact h
      · rw [hM] at hinf; rcases hinf with h | h
        · exact absurd h (EReal.coe_ne_top _)
        · exact absurd h (EReal.coe_ne_bot _)
    have hA : ∑ p, v p * Ideal.exp2 (s2 p - m2) = 0 := Finset.sum_eq_zero fun p _ => by rw [hz, mul_zero]
    have hB : ∑ p, v p * wt s p = 0 := Finset.sum_eq_zero fun p _ => by rw [hwz, mul_zero]
    rw [hA, hB, hsz, hl, d00, zero_mul, zero_add]
    rcases hls with ⟨h1, h2⟩ | ⟨x, hx⟩
    · rw [h1, h2, max_self, EReal.bot_sub, e0, add_zero, d00]; simp
    · rw [hx, max_eq_right bot_le, EReal.bot_sub, e0, zero_add, ← EReal.coe_sub, sub_self, Ideal.exp_coe, Real.exp_zero,
        EReal.coe_one, d11, d01, zero_mul, zero_add, mul_comm]
  · rcases row_cases hn s with ⟨hinf, _⟩ | ⟨M', l, hM', hl0, hl, hlse⟩
    · rw [hM] at hinf; rcases hinf with h | h
      · exact absurd h (EReal.coe_ne_top _)
      · exact absurd h (EReal.coe_ne_bot _)
    set r : ℝ := Real.exp (M - m' * Real.log 2) with hr
    have hr0 : 0 < r := Real.exp_pos _
    have hA : ∑ p, v p * Ideal.exp2 (s2 p - m2) = (r : EReal) * ∑ p, v p * wt s p := by
      rw [← sum_mul_real _ _ hr0.le]
      exact Finset.sum_congr rfl fun p _ => by rw [hw, mul_left_comm]
    have hB : ∑ p, Ideal.exp2 (s2 p - m2) = ((r * l : ℝ) : EReal) := by
      rw [Finset.sum_congr rfl fun p _ => hw p, sum_mul_real _ _ hr0.le]
      change _ * sm s = _
      rw [hl, EReal.coe_mul]
    rw [hA, hB, hl, hlse]
    generalize (∑ p, v p * wt s p) = A
    generalize M' + Real.log l = lp
    have key : ∀ e z : ℝ, 0 < z → (r : EReal) * A * Ideal.div (e : EReal) ((z : EReal) * ((r * l : ℝ) : EReal))
        = Ideal.div (e : EReal) (z : EReal) * Ideal.div A (l : EReal) := fun e z hz => by
      rw [← EReal.coe_mul, div_real _ (mul_pos hz (mul_pos hr0 hl0)).ne', div_real _ hz.ne', div_real _ hl0.ne',
        ← EReal.coe_mul, ← EReal.coe_mul, mul_comm (r : EReal) A, mul_assoc, ← EReal.coe_mul,
        mul_left_comm ((e * (1 / z) : ℝ) : EReal), ← EReal.coe_mul]
      congr 2
      field_simp
    rcases hls with ⟨h1, h2⟩ | ⟨x, hx⟩
    · rw [h1, h2, max_eq_left bot_le, EReal.bot_sub, e0, add_zero, ← EReal.coe_sub, sub_self, Ideal.exp_coe, Real.exp_zero,
        key 1 1 one_pos, EReal.coe_one, d01, mul_zero, zero_mul]
    · rw [hx, show max (lp : EReal) (x : EReal) = ((max lp x : ℝ) : EReal) from (Monotone.map_max EReal.coe_strictMono.monotone).symm, ← EReal.coe_sub, ← EReal.coe_sub, Ideal.exp_coe, Ideal.exp_coe, ← EReal.coe_add,
        key _ _ (add_pos (Real.exp_pos _) (Real.exp_pos _)), mul_comm os]

/-- A row's attention and its log-sum-exp: `⊥` together, or the log-sum-exp is real. -/
theorem row_out (hn : 0 < n) (s a : Fin n → EReal) :
    (lse s = ⊥ ∧ Ideal.div (∑ p, a p * wt s p) (sm s) = ⊥) ∨ ∃ x : ℝ, lse s = x := by
  rcases row_cases hn s with ⟨_, hw, hs, hl⟩ | ⟨M, l, _, _, _, hl⟩
  · refine .inl ⟨hl, ?_⟩
    rw [hs, Finset.sum_eq_zero fun p _ => by rw [hw, mul_zero]]
    unfold Ideal.div; simp
  · exact .inr ⟨_, hl⟩

end Cert.Attn

end
-- ==== Proof.Fill.lean ====
/-
  The dequantising loop with values: what its trips leave in the key and value scratch.
-/
module

public import proofs.«01_k».proof.Proof.Gen.KernelIdeal.Frame
public import proofs.«01_k».proof.Proof.Gen.KernelIdeal.Skeleton
public import proofs.«01_k».proof.Proof.Body
public import Idealize.ShloMosaic.Lib.Claim
public import Idealize.ShloMosaic.Lib.VecWindow
public import Idealize.ShloMosaic.Lib.WritesUnit
public import Idealize.ShloMosaic.Lib.Pipeline.Frame
public import Idealize.ShloMosaic.Lib.Pointwise
public import Idealize.ShloMosaic.Lib.Tactic
public import Idealize.ShloMosaic.PureOps.Ideal
public import Idealize.ShloMosaic.PureOps.Ideal.Laws

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The dequantised keys of a head: each code times its block's scale. -/
def Kmat (kc : Vec Ideal S1x32768x128 .fp8e4m3) (ks : Vec Ideal S1x256x128 .f32) : Vec Ideal S32768x128 .bf16 :=
  fun y => kc (ix3 (0 : Fin 1) (y 0) (y 1))
    * ks (ix3 (0 : Fin 1) (⟨(y 0).val / 128, by have : (y 0).val < 32768 := (y 0).isLt; omega⟩ : Fin 256) (y 1))

/-- The dequantised values of a head, transposed. -/
def Vmat (vc : Vec Ideal S1x32768x128 .fp8e4m3) (vs : Vec Ideal S1x256x128 .f32) : Vec Ideal S128x32768 .bf16 :=
  fun y => Kmat vc vs (ix2 (y 1) (y 0))

/-- The key scratch after `k` trips of 512 rows, over what it held. -/
def kFill (M G : Vec Ideal S32768x128 .bf16) : ℕ → Vec Ideal S32768x128 .bf16
  | 0 => G
  | k + 1 => fun y => if 512 * k ≤ (y 0).val ∧ (y 0).val < 512 * k + 512 then M y else kFill M G k y

/-- The value scratch after `k` trips of 512 columns, over what it held. -/
def vFill (M G : Vec Ideal S128x32768 .bf16) : ℕ → Vec Ideal S128x32768 .bf16
  | 0 => G
  | k + 1 => fun y => if 512 * k ≤ (y 1).val ∧ (y 1).val < 512 * k + 512 then M y else vFill M G k y

/-- After all trips the key scratch is the dequantised keys, -/
theorem kFill_all (M G : Vec Ideal S32768x128 .bf16) : kFill M G 64 = M := by
  have h : ∀ k (y : S32768x128.Idx), (y 0).val < 512 * k → kFill M G k y = M y := fun k => by
    induction k with
    | zero => intro y hy; omega
    | succ k ih =>
      intro y hy
      unfold kFill
      split
      · rfl
      · exact ih y (by omega)
  exact funext fun y => h 64 y (y 0).isLt

/-- and the value scratch the transposed dequantised values. -/
theorem vFill_all (M G : Vec Ideal S128x32768 .bf16) : vFill M G 64 = M := by
  have h : ∀ k (y : S128x32768.Idx), (y 1).val < 512 * k → vFill M G k y = M y := fun k => by
    induction k with
    | zero => intro y hy; omega
    | succ k ih =>
      intro y hy
      unfold vFill
      split
      · rfl
      · exact ih y (by omega)
  exact funext fun y => h 64 y (y 1).isLt

/-- A sub-block's payload at a row and a lane: the code times the lane's scale. -/
theorem pay2_at (s : Vec Ideal S1x1x128 .f32) (c : Vec Ideal S1x128x128 .fp8e4m3) (r l : Fin 128) :
    k0_pay2 s c (ix2 r l) = c (ix3 (0 : Fin 1) r l) * s (ix3 (0 : Fin 1) (0 : Fin 1) l) := by
  pointwise [k0_pay2]
/-- The value sub-block's payload at a lane and a row: the same product, transposed. -/
theorem pay3_at (s : Vec Ideal S1x1x128 .f32) (c : Vec Ideal S1x128x128 .fp8e4m3) (r l : Fin 128) :
    k0_pay3 s c (ix2 l r) = c (ix3 (0 : Fin 1) r l) * s (ix3 (0 : Fin 1) (0 : Fin 1) l) := by
  pointwise [k0_pay3]

/-- The four sub-blocks' payloads are one function of their loads. -/
theorem pay4_eq (s : Vec Ideal S1x1x128 .f32) (c : Vec Ideal S1x128x128 .fp8e4m3) : k0_pay4 s c = k0_pay2 s c := rfl
/-- This sub-block's payload is the first sub-block's, of its own load. -/
theorem pay7_eq (s : Vec Ideal S1x1x128 .f32) (c : Vec Ideal S1x128x128 .fp8e4m3) : k0_pay7 (k0_pay6 s) c = k0_pay2 s c := rfl
/-- This sub-block's payload is the first sub-block's, of its own load. -/
theorem pay11_eq (s : Vec Ideal S1x1x128 .f32) (c : Vec Ideal S1x128x128 .fp8e4m3) : k0_pay11 (k0_pay10 s c) = k0_pay2 s c := rfl
/-- This sub-block's payload is the first sub-block's, of its own load. -/
theorem pay5_eq (s : Vec Ideal S1x1x128 .f32) (c : Vec Ideal S1x128x128 .fp8e4m3) : k0_pay5 s c = k0_pay3 s c := rfl
/-- This sub-block's payload is the first sub-block's, of its own load. -/
theorem pay8_eq (s : Vec Ideal S1x1x128 .f32) (c : Vec Ideal S1x128x128 .fp8e4m3) : k0_pay8 s c = k0_pay3 s c := rfl
/-- This sub-block's payload is the first sub-block's, of its own load. -/
theorem pay12_eq (s : Vec Ideal S1x1x128 .f32) (c : Vec Ideal S1x128x128 .fp8e4m3) : k0_pay12 (k0_pay9 s) c = k0_pay3 s c := rfl

/-- The product at a row and a lane of sub-block `n` of trip `k`, over the loads of the staged codes and scales, is the
    dequantised entry. -/
theorem deq_at (v : View sig .tc .vmem S1x32768x128 .fp8e4m3) (X : v.ty.Contents (Elt Ideal)) (u : View sig .tc .vmem S1x256x128 .f32)
    (Y : u.ty.Contents (Elt Ideal)) (k n : ℕ) (hk : k < 64) (hn : n < 4) (o1 o2 : Fin 3 → ℕ) (h1 : o1 = ![0, 4 * k + n, 0])
    (h2 : o2 = ![0, 512 * k + 128 * n, 0]) (i1 : ∀ a, o1 a + S1x1x128.size a ≤ S1x256x128.size a)
    (i2 : ∀ a, o2 a + S1x128x128.size a ≤ S1x32768x128.size a) (r l : Fin 128) (hr : 512 * k + 128 * n + r.val < 32768) :
    v.readAt (Elt Ideal) (Rect.unit (s := S1x32768x128) o2 S1x128x128.size i2).toLoadRect X (ix3 (0 : Fin 1) r l)
        * u.readAt (Elt Ideal) (Rect.unit (s := S1x256x128) o1 S1x1x128.size i1).toLoadRect Y (ix3 (0 : Fin 1) (0 : Fin 1) l)
      = Kmat (v.read (Elt Ideal) X) (u.read (Elt Ideal) Y) (ix2 (⟨512 * k + 128 * n + r.val, hr⟩ : Fin 32768) l) := by
  subst h1 h2
  rw [View.readAt_unit v X i2 rfl i2, View.readAt_unit u Y i1 rfl i1]
  refine congrArg₂ (· * ·) (congrArg (v.read (Elt Ideal) X) (funext fun a => Fin.ext ?_))
    (congrArg (u.read (Elt Ideal) Y) (funext fun a => Fin.ext ?_))
  · match a with
    | ⟨0, _⟩ => rfl
    | ⟨1, _⟩ => show 512 * k + 128 * n + 1 * r.val = 512 * k + 128 * n + r.val; omega
    | ⟨2, _⟩ => show 0 + 1 * l.val = l.val; omega
  · have := r.isLt
    match a with
    | ⟨0, _⟩ => rfl
    | ⟨1, _⟩ => show 4 * k + n + 1 * 0 = (512 * k + 128 * n + r.val) / 128; omega
    | ⟨2, _⟩ => show 0 + 1 * l.val = l.val; omega

/-- Four stores of 128 rows each fill a trip's 512 rows. -/
theorem kTrip (v : View sig .tc .vmem S32768x128 .bf16) (f : v.ty.Contents (Elt Ideal)) (k : ℕ) (hk : k < 64)
    (M : Vec Ideal S32768x128 .bf16) (o0 o1 o2 o3 : Fin 2 → ℕ) (h0 : o0 = ![512 * k + 128 * 0, 0]) (h1 : o1 = ![512 * k + 128 * 1, 0])
    (h2 : o2 = ![512 * k + 128 * 2, 0]) (h3 : o3 = ![512 * k + 128 * 3, 0])
    (i0 : ∀ a, o0 a + S128x128.size a ≤ S32768x128.size a) (i1 : ∀ a, o1 a + S128x128.size a ≤ S32768x128.size a)
    (i2 : ∀ a, o2 a + S128x128.size a ≤ S32768x128.size a) (i3 : ∀ a, o3 a + S128x128.size a ≤ S32768x128.size a)
    (w0 w1 w2 w3 : Vec Ideal S128x128 .bf16)
    (e0 : ∀ (r l : Fin 128) h, w0 (ix2 r l) = M (ix2 (⟨512 * k + 128 * 0 + r.val, h⟩ : Fin 32768) l))
    (e1 : ∀ (r l : Fin 128) h, w1 (ix2 r l) = M (ix2 (⟨512 * k + 128 * 1 + r.val, h⟩ : Fin 32768) l))
    (e2 : ∀ (r l : Fin 128) h, w2 (ix2 r l) = M (ix2 (⟨512 * k + 128 * 2 + r.val, h⟩ : Fin 32768) l))
    (e3 : ∀ (r l : Fin 128) h, w3 (ix2 r l) = M (ix2 (⟨512 * k + 128 * 3 + r.val, h⟩ : Fin 32768) l)) :
    v.read (Elt Ideal) (v.writes (Elt Ideal) f [⟨Rect.unit (s := S32768x128) o3 S128x128.size i3, w3⟩,
        ⟨Rect.unit (s := S32768x128) o2 S128x128.size i2, w2⟩, ⟨Rect.unit (s := S32768x128) o1 S128x128.size i1, w1⟩,
        ⟨Rect.unit (s := S32768x128) o0 S128x128.size i0, w0⟩])
      = fun y => if 512 * k ≤ (y 0).val ∧ (y 0).val < 512 * k + 512 then M y else v.read (Elt Ideal) f y := by
  funext y
  have hy0 : (y 0).val < 32768 := (y 0).isLt
  have mem : ∀ (n : ℕ) (hn : n < 4) (o : Fin 2 → ℕ) (ho : o = ![512 * k + 128 * n, 0]) (i : ∀ a, o a + S128x128.size a ≤ S32768x128.size a)
      (w : Vec Ideal S128x128 .bf16)
      (e : ∀ (r l : Fin 128) h, w (ix2 r l) = M (ix2 (⟨512 * k + 128 * n + r.val, h⟩ : Fin 32768) l))
      (L : List (View.Piece (Elt Ideal) S32768x128 .bf16)),
      v.read (Elt Ideal) (v.writes (Elt Ideal) f (⟨Rect.unit (s := S32768x128) o S128x128.size i, w⟩ :: L)) y
        = if 512 * k + 128 * n ≤ (y 0).val ∧ (y 0).val < 512 * k + 128 * n + 128 then M y
          else v.read (Elt Ideal) (v.writes (Elt Ideal) f L) y := by
    intro n hn o ho i w e L
    split
    · next h =>
      rw [View.read_writes_cons_unit_of_mem v f i w L y
        (ix2 (⟨(y 0).val - (512 * k + 128 * n), by omega⟩ : Fin 128) (y 1)) ho (fun a => by
          match a with
          | ⟨0, _⟩ => show (y 0).val = 512 * k + 128 * n + ((y 0).val - (512 * k + 128 * n)); omega
          | ⟨1, _⟩ => show (y 1).val = 0 + (y 1).val; omega)]
      refine (e _ _ (by show 512 * k + 128 * n + ((y 0).val - (512 * k + 128 * n)) < 32768; omega)).trans (congrArg M (funext fun a => Fin.ext ?_))
      match a with
      | ⟨0, _⟩ => show 512 * k + 128 * n + ((y 0).val - (512 * k + 128 * n)) = (y 0).val; omega
      | ⟨1, _⟩ => rfl
    · next h =>
      rw [View.read_writes_cons_unit_of_not_mem v f i w L y ho 0 (by
        show (y 0).val < 512 * k + 128 * n ∨ 512 * k + 128 * n + 128 ≤ (y 0).val
        omega)]
  rw [mem 3 (by omega) o3 h3 i3 w3 e3, mem 2 (by omega) o2 h2 i2 w2 e2, mem 1 (by omega) o1 h1 i1 w1 e1,
    mem 0 (by omega) o0 h0 i0 w0 e0, View.writes_nil]
  split_ifs <;> first | rfl | omega

/-- Four stores of 128 columns each fill a trip's 512 columns. -/
theorem vTrip (v : View sig .tc .vmem S128x32768 .bf16) (f : v.ty.Contents (Elt Ideal)) (k : ℕ) (hk : k < 64)
    (M : Vec Ideal S128x32768 .bf16) (o0 o1 o2 o3 : Fin 2 → ℕ) (h0 : o0 = ![0, 512 * k + 128 * 0]) (h1 : o1 = ![0, 512 * k + 128 * 1])
    (h2 : o2 = ![0, 512 * k + 128 * 2]) (h3 : o3 = ![0, 512 * k + 128 * 3])
    (i0 : ∀ a, o0 a + S128x128.size a ≤ S128x32768.size a) (i1 : ∀ a, o1 a + S128x128.size a ≤ S128x32768.size a)
    (i2 : ∀ a, o2 a + S128x128.size a ≤ S128x32768.size a) (i3 : ∀ a, o3 a + S128x128.size a ≤ S128x32768.size a)
    (w0 w1 w2 w3 : Vec Ideal S128x128 .bf16)
    (e0 : ∀ (r l : Fin 128) h, w0 (ix2 l r) = M (ix2 l (⟨512 * k + 128 * 0 + r.val, h⟩ : Fin 32768)))
    (e1 : ∀ (r l : Fin 128) h, w1 (ix2 l r) = M (ix2 l (⟨512 * k + 128 * 1 + r.val, h⟩ : Fin 32768)))
    (e2 : ∀ (r l : Fin 128) h, w2 (ix2 l r) = M (ix2 l (⟨512 * k + 128 * 2 + r.val, h⟩ : Fin 32768)))
    (e3 : ∀ (r l : Fin 128) h, w3 (ix2 l r) = M (ix2 l (⟨512 * k + 128 * 3 + r.val, h⟩ : Fin 32768))) :
    v.read (Elt Ideal) (v.writes (Elt Ideal) f [⟨Rect.unit (s := S128x32768) o3 S128x128.size i3, w3⟩,
        ⟨Rect.unit (s := S128x32768) o2 S128x128.size i2, w2⟩, ⟨Rect.unit (s := S128x32768) o1 S128x128.size i1, w1⟩,
        ⟨Rect.unit (s := S128x32768) o0 S128x128.size i0, w0⟩])
      = fun y => if 512 * k ≤ (y 1).val ∧ (y 1).val < 512 * k + 512 then M y else v.read (Elt Ideal) f y := by
  funext y
  have hy0 : (y 1).val < 32768 := (y 1).isLt
  have mem : ∀ (n : ℕ) (hn : n < 4) (o : Fin 2 → ℕ) (ho : o = ![0, 512 * k + 128 * n]) (i : ∀ a, o a + S128x128.size a ≤ S128x32768.size a)
      (w : Vec Ideal S128x128 .bf16)
      (e : ∀ (r l : Fin 128) h, w (ix2 l r) = M (ix2 l (⟨512 * k + 128 * n + r.val, h⟩ : Fin 32768)))
      (L : List (View.Piece (Elt Ideal) S128x32768 .bf16)),
      v.read (Elt Ideal) (v.writes (Elt Ideal) f (⟨Rect.unit (s := S128x32768) o S128x128.size i, w⟩ :: L)) y
        = if 512 * k + 128 * n ≤ (y 1).val ∧ (y 1).val < 512 * k + 128 * n + 128 then M y
          else v.read (Elt Ideal) (v.writes (Elt Ideal) f L) y := by
    intro n hn o ho i w e L
    split
    · next h =>
      rw [View.read_writes_cons_unit_of_mem v f i w L y
        (ix2 (y 0) (⟨(y 1).val - (512 * k + 128 * n), by omega⟩ : Fin 128)) ho (fun a => by
          match a with
          | ⟨1, _⟩ => show (y 1).val = 512 * k + 128 * n + ((y 1).val - (512 * k + 128 * n)); omega
          | ⟨0, _⟩ => show (y 0).val = 0 + (y 0).val; omega)]
      refine (e _ _ (by show 512 * k + 128 * n + ((y 1).val - (512 * k + 128 * n)) < 32768; omega)).trans (congrArg M (funext fun a => Fin.ext ?_))
      match a with
      | ⟨1, _⟩ => show 512 * k + 128 * n + ((y 1).val - (512 * k + 128 * n)) = (y 1).val; omega
      | ⟨0, _⟩ => rfl
    · next h =>
      rw [View.read_writes_cons_unit_of_not_mem v f i w L y ho 1 (by
        show (y 1).val < 512 * k + 128 * n ∨ 512 * k + 128 * n + 128 ≤ (y 1).val
        omega)]
  rw [mem 3 (by omega) o3 h3 i3 w3 e3, mem 2 (by omega) o2 h2 i2 w2 e2, mem 1 (by omega) o1 h1 i1 w1 e1,
    mem 0 (by omega) o0 h0 i0 w0 e0, View.writes_nil]
  split_ifs <;> first | rfl | omega

set_option warn.classDefReducibility false in
set_option maxHeartbeats 4000000 in
@[sl_loop] def inv1 (c : Dev nD) (i : grid0.Coords) (arg2 : Memref sig .tc .vmem S1x1x512x128 .fp8e4m3) (harg2 : arg2.IsWhole) (arg3 : Memref sig .tc .vmem S1x1x1x512 .f32) (harg3 : arg3.IsWhole) (arg4 : Memref sig .tc .vmem S1x32768x128 .fp8e4m3) (harg4 : arg4.IsWhole) (arg5 : Memref sig .tc .vmem S1x32768x128 .fp8e4m3) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x1x512x128 .fp8e4m3) (harg8 : arg8.IsWhole) (arg9 : Memref sig .tc .vmem S1x1x512x128 .fp8e4m3) (harg9 : arg9.IsWhole) (arg10 : Memref sig .tc .vmem S1x1x512x1 .f32) (harg10 : arg10.IsWhole) (arg11 : Memref sig .tc .vmem S1x1x512x1 .f32) (harg11 : arg11.IsWhole) (arg12 : Memref sig .tc .vmem S1x512x128 .bf16) (harg12 : arg12.IsWhole) (arg13 : Memref sig .tc .vmem S1x1x1x512 .f32) (harg13 : arg13.IsWhole) (arg14 : Memref sig .tc .vmem S1x1x1x512 .f32) (harg14 : arg14.IsWhole) (arg15 : Memref sig .tc .vmem S32768x128 .bf16) (harg15 : arg15.IsWhole) (arg16 : Memref sig .tc .vmem S128x32768 .bf16) (harg16 : arg16.IsWhole) (arg17 : Memref sig .tc .vmem S512x128 .bf16) (harg17 : arg17.IsWhole) (arg18 : Memref sig .tc .vmem S128x512 .f32) (harg18 : arg18.IsWhole) (arg19 : Memref sig .tc .vmem S8x512 .f32) (harg19 : arg19.IsWhole) (arg20 : Memref sig .tc .vmem S1x512 .f32) (harg20 : arg20.IsWhole) (k0_h1 : k0_cond1 i = 1#1)
    (X4 : Buf (Elt Ideal) (arg4.view.loc (c : Thread nD τ))) (X5 : Buf (Elt Ideal) (arg5.view.loc (c : Thread nD τ))) (X6 : Buf (Elt Ideal) (arg6.view.loc (c : Thread nD τ))) (X7 : Buf (Elt Ideal) (arg7.view.loc (c : Thread nD τ))) (G15 : Buf (Elt Ideal) (arg15.view.loc (c : Thread nD τ))) (G16 : Buf (Elt Ideal) (arg16.view.loc (c : Thread nD τ))) :
    Idealize.ShloMosaic.LoopInv (M := MT nD τ sig Unit (Elt Ideal) ℕ (UR sig nD τ) ℕ) Idealize.ShloMosaic.frame (wpE defs₀ Variants.none (c : Thread nD τ) none) Set.univ
    k0_t1_loop.lb k0_t1_loop.ub k0_t1_loop.st (k0_t1_ok i k0_h1) () (k0_t1_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1) where
  inv := fun k _ => iprop(pt c arg4 X4 ∗ pt c arg5 X5 ∗ pt c arg6 X6 ∗ pt c arg7 X7 ∗ (∃ f, pt c arg15 f ∗ ⌜arg15.view.read (Elt Ideal) f = kFill (Kmat (arg4.view.read (Elt Ideal) X4) (arg6.view.read (Elt Ideal) X6)) (arg15.view.read (Elt Ideal) G15) k⌝) ∗ (∃ f, pt c arg16 f ∗ ⌜arg16.view.read (Elt Ideal) f = vFill (Vmat (arg5.view.read (Elt Ideal) X5) (arg7.view.read (Elt Ideal) X7)) (arg16.view.read (Elt Ideal) G16) k⌝))
  step k acc := by
    have hk : k.val < 64 := Nat.lt_of_lt_of_le k.isLt k0_t1_abs.2.1
    unfold k0_t1_body
    iintro ⟨H4, H5, H6, H7, ⟨%f15, H15, %h15⟩, ⟨%f16, H16, %h16⟩⟩
    simp only [k0_part1_eq_skeleton, k0_part2_eq_skeleton, k0_part3_eq_skeleton]
    sl_exec
    sl_step
    isplitl [H4]; · iexact H4
    isplitl [H5]; · iexact H5
    isplitl [H6]; · iexact H6
    isplitl [H7]; · iexact H7
    isplitl [H15]
    · iexists _; isplitl [H15]; · iexact H15
      ipureintro
      rw [kFill, ← h15]
      delta inv1.sl.r inv1.sl.r_3
      simp only [pay4_eq, pay7_eq, pay11_eq]
      exact kTrip _ f15 k.val hk _ _ _ _ _ (k0_off3_eq k 0) (k0_off3_eq k 1) (k0_off3_eq k 2) (k0_off3_eq k 3) _ _ _ _ _ _ _ _
        (fun r l h => (pay2_at _ _ r l).trans (deq_at _ X4 _ X6 k.val 0 hk (by omega) _ _ (k0_off1_eq k 0) (k0_off2_eq k 0) _ _ r l h))
        (fun r l h => (pay2_at _ _ r l).trans (deq_at _ X4 _ X6 k.val 1 hk (by omega) _ _ (k0_off1_eq k 1) (k0_off2_eq k 1) _ _ r l h))
        (fun r l h => (pay2_at _ _ r l).trans (deq_at _ X4 _ X6 k.val 2 hk (by omega) _ _ (k0_off1_eq k 2) (k0_off2_eq k 2) _ _ r l h))
        (fun r l h => (pay2_at _ _ r l).trans (deq_at _ X4 _ X6 k.val 3 hk (by omega) _ _ (k0_off1_eq k 3) (k0_off2_eq k 3) _ _ r l h))
    · iexists _; isplitl [H16]; · iexact H16
      ipureintro
      rw [vFill, ← h16]
      delta inv1.sl.r_1 inv1.sl.r_2
      simp only [pay5_eq, pay8_eq, pay12_eq]
      exact vTrip _ f16 k.val hk _ _ _ _ _ (k0_off4_eq k 0) (k0_off4_eq k 1) (k0_off4_eq k 2) (k0_off4_eq k 3) _ _ _ _ _ _ _ _
        (fun r l h => (pay3_at _ _ r l).trans (deq_at _ X5 _ X7 k.val 0 hk (by omega) _ _ (k0_off1_eq k 0) (k0_off2_eq k 0) _ _ r l h))
        (fun r l h => (pay3_at _ _ r l).trans (deq_at _ X5 _ X7 k.val 1 hk (by omega) _ _ (k0_off1_eq k 1) (k0_off2_eq k 1) _ _ r l h))
        (fun r l h => (pay3_at _ _ r l).trans (deq_at _ X5 _ X7 k.val 2 hk (by omega) _ _ (k0_off1_eq k 2) (k0_off2_eq k 2) _ _ r l h))
        (fun r l h => (pay3_at _ _ r l).trans (deq_at _ X5 _ X7 k.val 3 hk (by omega) _ _ (k0_off1_eq k 3) (k0_off2_eq k 3) _ _ r l h))

end Cert.KernelIdeal.Val

end
-- ==== Proof.Part4.lean ====
/-
  One grid point of the kernel with values.
-/
module

public import proofs.«01_k».proof.Proof.Gen.KernelIdeal.Frame
public import proofs.«01_k».proof.Proof.Gen.KernelIdeal.Skeleton
public import proofs.«01_k».proof.Proof.Body
public import proofs.«01_k».proof.Proof.Fill
public import Idealize.ShloMosaic.Lib.Claim
public import Idealize.ShloMosaic.Lib.VecWindow
public import Idealize.ShloMosaic.Lib.WritesUnit
public import Idealize.ShloMosaic.Lib.Pipeline.Frame
public import Idealize.ShloMosaic.Lib.Pointwise
public import Idealize.ShloMosaic.Lib.Tactic
public import Idealize.ShloMosaic.PureOps.Ideal
public import Idealize.ShloMosaic.PureOps.Ideal.Laws

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The shift and the two sums the kernel ends a grid point's prompt pass with: those of the first pass, at the first block's
    greatest score, where its test finds them good, -/
def Good (q : Vec Ideal S1x1x512x128 .fp8e4m3) (qs : Vec Ideal S1x1x1x512 .f32) (K : Vec Ideal S32768x128 .bf16)
    (V : Vec Ideal S128x32768 .bf16) (m : Vec Ideal S1x512 .f32) (l : Vec Ideal S8x512 .f32) (a : Vec Ideal S128x512 .f32) : Prop :=
  m = k0_pay18 (k0_pay17 qs (rowBlk K 0) (k0_pay14 q))
    ∧ l = l2 (k0_pay16 qs) (k0_pay17 qs (rowBlk K 0) (k0_pay14 q)) K (k0_pay14 q) (k0_pay20 (F := Ideal)) 32
    ∧ a = a2 (k0_pay16 qs) (k0_pay17 qs (rowBlk K 0) (k0_pay14 q)) K V (k0_pay14 q) (k0_pay19 (F := Ideal)) 32
    ∧ Scalar.cmpf .ogt (k0_pay24 l a) (Scalar.ofBits .f32 0x3F000000#32) = 1#1

/-- else those of the second pass, at the greatest score of all. -/
def Again (q : Vec Ideal S1x1x512x128 .fp8e4m3) (qs : Vec Ideal S1x1x1x512 .f32) (K : Vec Ideal S32768x128 .bf16)
    (V : Vec Ideal S128x32768 .bf16) (m : Vec Ideal S1x512 .f32) (l : Vec Ideal S8x512 .f32) (a : Vec Ideal S128x512 .f32) : Prop :=
  m = k0_pay28 (m3 (k0_pay16 qs) K (k0_pay14 q) (k0_pay25 (F := Ideal)) 32)
    ∧ l = l4 (k0_pay16 qs) (m3 (k0_pay16 qs) K (k0_pay14 q) (k0_pay25 (F := Ideal)) 32) K (k0_pay14 q) (k0_pay30 (F := Ideal)) 32
    ∧ a = a4 (k0_pay16 qs) (m3 (k0_pay16 qs) K (k0_pay14 q) (k0_pay25 (F := Ideal)) 32) K V (k0_pay14 q) (k0_pay29 (F := Ideal)) 32

/-- What the prompt pass ends with. -/
def Pass (q : Vec Ideal S1x1x512x128 .fp8e4m3) (qs : Vec Ideal S1x1x1x512 .f32) (K : Vec Ideal S32768x128 .bf16)
    (V : Vec Ideal S128x32768 .bf16) (m : Vec Ideal S1x512 .f32) (l : Vec Ideal S8x512 .f32) (a : Vec Ideal S128x512 .f32) : Prop :=
  Good q qs K V m l a ∨ Again q qs K V m l a

/-- The block of the first result, from the shift and the sums. -/
def out0 (q : Vec Ideal S1x1x512x128 .fp8e4m3) (qs : Vec Ideal S1x1x1x512 .f32) (ck cv : Vec Ideal S1x1x512x128 .fp8e4m3)
    (cks cvs : Vec Ideal S1x1x512x1 .f32) (m : Vec Ideal S1x512 .f32) (l : Vec Ideal S8x512 .f32) (a : Vec Ideal S128x512 .f32) :
    Vec Ideal S1x512x128 .bf16 :=
  k0_pay42 (k0_pay34 l) (k0_pay35 l m) (k0_pay37 (k0_pay13 q) (k0_pay15 qs) ck cks) (k0_pay38 (k0_pay13 q) (k0_pay15 qs) ck cks)
    (k0_pay39 (k0_pay13 q) (k0_pay15 qs) ck cks) (k0_pay40 cv) cvs a

/-- The row of the second result. -/
def out1 (m : Vec Ideal S1x512 .f32) (l : Vec Ideal S8x512 .f32) : Vec Ideal S1x1x1x512 .f32 := k0_pay43 (k0_pay35 l m)

/-- The row of the third result. -/
def out2 (q : Vec Ideal S1x1x512x128 .fp8e4m3) (qs : Vec Ideal S1x1x1x512 .f32) (ck : Vec Ideal S1x1x512x128 .fp8e4m3)
    (cks : Vec Ideal S1x1x512x1 .f32) : Vec Ideal S1x1x1x512 .f32 :=
  k0_pay1 (k0_pay44 (k0_pay37 (k0_pay13 q) (k0_pay15 qs) ck cks) (k0_pay39 (k0_pay13 q) (k0_pay15 qs) ck cks))

/-- The first block's rows start at the buffer's first. -/
theorem off5_eq : k0_off5 = ![1024 * 0, 0] := by
  funext a; fin_cases a <;> rfl

set_option maxHeartbeats 8000000 in
/-- The first part of the body: the scratch dequantised at a head's first point, else found so; the query cast; the first
    block's greatest score. -/
theorem part4Run (c : Dev nD) (i : grid0.Coords) (arg2 : Memref sig .tc .vmem S1x1x512x128 .fp8e4m3) (harg2 : arg2.IsWhole) (arg3 : Memref sig .tc .vmem S1x1x1x512 .f32) (harg3 : arg3.IsWhole) (arg4 : Memref sig .tc .vmem S1x32768x128 .fp8e4m3) (harg4 : arg4.IsWhole) (arg5 : Memref sig .tc .vmem S1x32768x128 .fp8e4m3) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x1x512x128 .fp8e4m3) (harg8 : arg8.IsWhole) (arg9 : Memref sig .tc .vmem S1x1x512x128 .fp8e4m3) (harg9 : arg9.IsWhole) (arg10 : Memref sig .tc .vmem S1x1x512x1 .f32) (harg10 : arg10.IsWhole) (arg11 : Memref sig .tc .vmem S1x1x512x1 .f32) (harg11 : arg11.IsWhole) (arg12 : Memref sig .tc .vmem S1x512x128 .bf16) (harg12 : arg12.IsWhole) (arg13 : Memref sig .tc .vmem S1x1x1x512 .f32) (harg13 : arg13.IsWhole) (arg14 : Memref sig .tc .vmem S1x1x1x512 .f32) (harg14 : arg14.IsWhole) (arg15 : Memref sig .tc .vmem S32768x128 .bf16) (harg15 : arg15.IsWhole) (arg16 : Memref sig .tc .vmem S128x32768 .bf16) (harg16 : arg16.IsWhole) (arg17 : Memref sig .tc .vmem S512x128 .bf16) (harg17 : arg17.IsWhole) (arg18 : Memref sig .tc .vmem S128x512 .f32) (harg18 : arg18.IsWhole) (arg19 : Memref sig .tc .vmem S8x512 .f32) (harg19 : arg19.IsWhole) (arg20 : Memref sig .tc .vmem S1x512 .f32) (harg20 : arg20.IsWhole)
    (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))) (f12 : Buf (Elt Ideal) (arg12.view.loc (c : Thread nD τ))) (f13 : Buf (Elt Ideal) (arg13.view.loc (c : Thread nD τ))) (f14 : Buf (Elt Ideal) (arg14.view.loc (c : Thread nD τ))) (f15 : Buf (Elt Ideal) (arg15.view.loc (c : Thread nD τ))) (f16 : Buf (Elt Ideal) (arg16.view.loc (c : Thread nD τ))) (f17 : Buf (Elt Ideal) (arg17.view.loc (c : Thread nD τ))) (f18 : Buf (Elt Ideal) (arg18.view.loc (c : Thread nD τ))) (f19 : Buf (Elt Ideal) (arg19.view.loc (c : Thread nD τ))) (f20 : Buf (Elt Ideal) (arg20.view.loc (c : Thread nD τ)))
    (hK : ¬ k0_cond1 i = 1#1 → arg15.view.read (Elt Ideal) f15 = Kmat (arg4.view.read (Elt Ideal) f4) (arg6.view.read (Elt Ideal) f6))
    (hV : ¬ k0_cond1 i = 1#1 → arg16.view.read (Elt Ideal) f16 = Vmat (arg5.view.read (Elt Ideal) f5) (arg7.view.read (Elt Ideal) f7))
    (K : _ → sProp 𝕄) :
    iprop(pt c arg2 f2 ∗ pt c arg3 f3 ∗ pt c arg4 f4 ∗ pt c arg5 f5 ∗ pt c arg6 f6 ∗ pt c arg7 f7 ∗ pt c arg15 f15 ∗ pt c arg16 f16 ∗ pt c arg17 f17 ∗ pt c arg20 f20
        ∗ (∀ v29, (pt c arg2 f2 ∗ pt c arg3 f3 ∗ pt c arg4 f4 ∗ pt c arg5 f5 ∗ pt c arg6 f6 ∗ pt c arg7 f7
            ∗ (∃ f, pt c arg15 f ∗ ⌜arg15.view.read (Elt Ideal) f = Kmat (arg4.view.read (Elt Ideal) f4) (arg6.view.read (Elt Ideal) f6)⌝)
            ∗ (∃ f, pt c arg16 f ∗ ⌜arg16.view.read (Elt Ideal) f = Vmat (arg5.view.read (Elt Ideal) f5) (arg7.view.read (Elt Ideal) f7)⌝)
            ∗ (∃ f, pt c arg17 f ∗ ⌜arg17.view.read (Elt Ideal) f = k0_pay14 (arg2.view.read (Elt Ideal) f2)⌝) ∗ pt c arg20 f20)
          -∗ K ⟨k0_pay13 (arg2.view.read (Elt Ideal) f2), k0_pay15 (arg3.view.read (Elt Ideal) f3), k0_pay16 (arg3.view.read (Elt Ideal) f3),
              k0_pay17 (arg3.view.read (Elt Ideal) f3) (rowBlk (Kmat (arg4.view.read (Elt Ideal) f4) (arg6.view.read (Elt Ideal) f6)) 0) (k0_pay14 (arg2.view.read (Elt Ideal) f2)), v29⟩))
      ⊢ wp frame (wpE (defs₀ (F := Ideal)) Variants.none c none) Set.univ
          (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [k0_part4_eq_skeleton]; unfold k0_part4_skel
  iintro ⟨H2, H3, H4, H5, H6, H7, H15, H16, H17, H20, Hk⟩
  by_cases h1 : k0_cond1 i = 1#1
  · skip
    sl_exec
    sl_step
    have e17 : arg17.view.read (Elt Ideal) (arg17.view.writes (Elt Ideal) f17 (part4Run.sl.H17_1 c arg2 f2)) = k0_pay14 (arg2.view.read (Elt Ideal) f2) := by
      delta part4Run.sl.H17_1
      rw [View.read_writes_full, View.readAt_full]
    have e20 : part4Run.sl.v20 c arg2 arg17 f2 = k0_pay14 (arg2.view.read (Elt Ideal) f2) := by
      delta part4Run.sl.v20 part4Run.sl.H17_1
      rw [View.readCov_full, View.readAt_full]
    have t1 : Scf.trips k0_t1_loop.lb k0_t1_loop.ub k0_t1_loop.st = 64 := by decide +kernel
    rw [t1, kFill_all] at hL5
    rw [t1, vFill_all] at hL7
    rw [View.readAt_full arg2.view f2, View.readAt_full arg3.view f3, readAt_row arg15.view fL0 0 (by decide) k0_off5 off5_eq _, e20, hL5]
    iapply Hk
    isplitl [H2]; iexact H2
    isplitl [H3]; iexact H3
    isplitl [H4]; iexact H4
    isplitl [H5]; iexact H5
    isplitl [H6]; iexact H6
    isplitl [H7]; iexact H7
    isplitl [H15]
    · iexists _; isplitl [H15]; iexact H15; ipureintro; exact hL5
    isplitl [H16]
    · iexists _; isplitl [H16]; iexact H16; ipureintro; exact hL7
    isplitl [H17]
    · iexists _; isplitl [H17]; iexact H17; ipureintro; exact e17
    iexact H20
  · skip
    sl_exec
    sl_step
    have e17 : arg17.view.read (Elt Ideal) (arg17.view.writes (Elt Ideal) f17 (part4Run.sl.H17_1_1 c arg2 f2)) = k0_pay14 (arg2.view.read (Elt Ideal) f2) := by
      delta part4Run.sl.H17_1_1
      rw [View.read_writes_full, View.readAt_full]
    have e20 : part4Run.sl.v20_1 c arg2 arg17 f2 = k0_pay14 (arg2.view.read (Elt Ideal) f2) := by
      delta part4Run.sl.v20_1 part4Run.sl.H17_1_1
      rw [View.readCov_full, View.readAt_full]
    rw [View.readAt_full arg2.view f2, View.readAt_full arg3.view f3, readAt_row arg15.view f15 0 (by decide) k0_off5 off5_eq _, e20, hK h1]
    iapply Hk
    isplitl [H2]; iexact H2
    isplitl [H3]; iexact H3
    isplitl [H4]; iexact H4
    isplitl [H5]; iexact H5
    isplitl [H6]; iexact H6
    isplitl [H7]; iexact H7
    isplitl [H15]
    · iexists _; isplitl [H15]; iexact H15; ipureintro; exact hK h1
    isplitl [H16]
    · iexists _; isplitl [H16]; iexact H16; ipureintro; exact hV h1
    isplitl [H17]
    · iexists _; isplitl [H17]; iexact H17; ipureintro; exact e17
    iexact H20

end Cert.KernelIdeal.Val

end
-- ==== Proof.PayB.lean ====
/-
  The payloads at an index.
-/
module

public import proofs.«01_k».proof.Proof.Gen.KernelIdeal.Skeleton
public import proofs.«01_k».proof.Proof.Body
public import proofs.«01_k».proof.Proof.Math
public import proofs.«01_k».proof.Proof.Part4
public import Idealize.ShloMosaic.Lib.Claim
public import Idealize.ShloMosaic.Lib.VecWindow
public import Idealize.ShloMosaic.Lib.WritesUnit
public import Idealize.ShloMosaic.Lib.Pipeline.Frame
public import Idealize.ShloMosaic.Lib.Pointwise
public import Idealize.ShloMosaic.Lib.Tactic
public import Idealize.ShloMosaic.PureOps.Ideal
public import Idealize.ShloMosaic.PureOps.Ideal.Laws

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

open Cert.Attn

/-- The score's constant factor. -/
abbrev c0 : EReal := Ideal.ofBits .f32 0x3DB504F3#32

/-- The pattern of negative infinity. -/
theorem negInf : (Ideal.ofBits .f32 0xFF800000#32 : EReal) = ⊥ := by simp [Ideal.ofBits, Ideal.ieee]

/-- The two named constants. -/
theorem log2e_val : (Named.named (F := Ideal) κ "log2e" (φ := .f32) 0x3FB8AA3B#32 : EReal) = (L2 : EReal) :=
  IdealRules.named_const.ideal_named_scalar _ _ _ _ rfl
/-- The second named constant is the logarithm of two. -/
theorem ln2_val : (Named.named (F := Ideal) κ "ln2" (φ := .f32) 0x3F317218#32 : EReal) = (Real.log 2 : EReal) :=
  IdealRules.named_const.ideal_named_scalar _ _ _ _ rfl

/-- A maximum from negative infinity is the supremum. -/
theorem fold_max {ι : Type*} (s : Finset ι) (f : ι → EReal) : s.fold max (⊥ : EReal) f = s.sup f := rfl

/-- The test, where it is passed, finds every column's sum finite. -/
theorem test_finite (l : Vec Ideal S8x512 .f32) (a : Vec Ideal S128x512 .f32)
    (h : Scalar.cmpf .ogt (k0_pay24 l a) (Scalar.ofBits .f32 0x3F000000#32) = 1#1) (j : Fin 512) :
    ∑ r : Fin 8, l (ix2 r j) ≠ (⊤ : EReal) := by
  have e : k0_pay24 l a = Finset.univ.fold min (Ideal.ofBits .f32 0x7F800000#32 : EReal) fun x : Fin 1 × Fin 512 =>
      if max (Ideal.div (∑ r : Fin 8, l (ix2 r x.2)) (Ideal.ofBits .f32 0x71800000#32))
          (Ideal.div (Finset.univ.fold max (Ideal.ofBits .f32 0xFF800000#32 : EReal) fun d : Fin 128 => FloatOps.absf (F := Ideal) (φ := .f32) (a (ix2 d x.2)))
            (Ideal.ofBits .f32 0x7F61B1E6#32)) < (1 : EReal) then (1 : EReal) else 0 := by
    pointwise [k0_pay24]
  intro ht
  have hle : k0_pay24 l a ≤ (0 : EReal) := by
    rw [e, Finset.fold_min_le]
    refine Or.inr ⟨(0, j), Finset.mem_univ _, ?_⟩
    rw [if_neg]
    rw [not_lt]
    refine le_trans ?_ (le_max_left _ _)
    show (1 : EReal) ≤ Ideal.div (∑ r : Fin 8, l (ix2 r j)) (Ideal.ofBits .f32 0x71800000#32)
    have hc : (Ideal.ofBits .f32 0x71800000#32 : EReal) = (((2 : ℝ) ^ 100 : ℝ) : EReal) := by
      simp [Ideal.ofBits, Ideal.ieee, -EReal.coe_mul, -EReal.coe_pow]; norm_num
    rw [ht, hc, div_real _ (by positivity), EReal.top_mul_coe_of_pos (by positivity)]
    exact le_top
  have hgt : (Ideal.ofBits .f32 0x3F000000#32 : EReal) < k0_pay24 l a := by
    by_contra hn
    have : Scalar.cmpf .ogt (k0_pay24 l a) (Scalar.ofBits .f32 0x3F000000#32) = BitVec.ofBool (decide ((Ideal.ofBits .f32 0x3F000000#32 : EReal) < k0_pay24 l a)) := rfl
    rw [this, decide_eq_false hn] at h
    exact absurd h (by decide)
  have hh : (0 : EReal) < Ideal.ofBits .f32 0x3F000000#32 := by
    simp [Ideal.ofBits, Ideal.ieee, -EReal.coe_mul, -EReal.coe_pow]
  exact absurd (lt_of_lt_of_le hgt hle) (not_lt.mpr hh.le)

end Cert.KernelIdeal.Val

end
-- ==== Proof.PayC.lean ====
/-
  The payloads at an index.
-/
module

public import proofs.«01_k».proof.Proof.Gen.KernelIdeal.Skeleton
public import proofs.«01_k».proof.Proof.Body
public import proofs.«01_k».proof.Proof.Math
public import proofs.«01_k».proof.Proof.Part4
public import proofs.«01_k».proof.Proof.PayB
public import Idealize.ShloMosaic.Lib.Claim
public import Idealize.ShloMosaic.Lib.VecWindow
public import Idealize.ShloMosaic.Lib.WritesUnit
public import Idealize.ShloMosaic.Lib.Pipeline.Frame
public import Idealize.ShloMosaic.Lib.Pointwise
public import Idealize.ShloMosaic.Lib.Tactic
public import Idealize.ShloMosaic.PureOps.Ideal
public import Idealize.ShloMosaic.PureOps.Ideal.Laws

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

open Cert.Attn

/-- The completion's score of a key at a column: negative infinity for a later key. -/
def SS (q : Vec Ideal S1x1x512x128 .fp8e4m3) (qs : Vec Ideal S1x1x1x512 .f32) (ck : Vec Ideal S1x1x512x128 .fp8e4m3)
    (cks : Vec Ideal S1x1x512x1 .f32) (j t : Fin 512) : EReal :=
  if j.val < t.val then ⊥ else
    (∑ d : Fin 128, ck (ix4 (0 : Fin 1) (0 : Fin 1) t d) * q (ix4 (0 : Fin 1) (0 : Fin 1) j d))
      * (qs (ix4 (0 : Fin 1) (0 : Fin 1) (0 : Fin 1) j) * c0) * cks (ix4 (0 : Fin 1) (0 : Fin 1) t (0 : Fin 1))

/-- A position as a word is itself. -/
theorem pos_toInt (t : ℕ) (h : t < 1024) : (BitVec.ofNat 32 t).toInt = t := by
  rw [BitVec.toInt_eq_toNat_of_lt] <;> simp only [BitVec.toNat_ofNat] <;> omega

/-- The mask: negative infinity where the key comes after the query. -/
theorem mask_select (t j : Fin 512) (x : EReal) :
    Scalar.select (IntOp.cmpi .sgt (BitVec.ofNat 32 t.val) (BitVec.ofNat 32 j.val)) (⊥ : EReal) x = if j.val < t.val then ⊥ else x := by
  have e : IntOp.cmpi .sgt (BitVec.ofNat 32 t.val) (BitVec.ofNat 32 j.val) = BitVec.ofBool (decide (j.val < t.val)) := by
    show BitVec.ofBool (BitVec.slt _ _) = _
    congr 1
    rw [BitVec.slt, pos_toInt _ (by omega), pos_toInt _ (by omega)]
    simp
  rw [e]
  by_cases h : j.val < t.val
  · rw [if_pos h, decide_eq_true h]; rfl
  · rw [if_neg h, decide_eq_false h]; rfl

/-- A position's successor as a float. -/
theorem sitofp_succ (j : Fin 512) :
    (FloatOps.sitofp (F := Ideal) .f32 (IntOp.addi (BitVec.ofNat 32 j.val) 1#32) : EReal) = (((j.val + 1 : ℕ) : ℝ) : EReal) := by
  have e : IntOp.addi (BitVec.ofNat 32 j.val) 1#32 = BitVec.ofNat 32 (j.val + 1) := by
    show BitVec.ofNat 32 j.val + 1#32 = _
    rw [BitVec.ofNat_add]
  rw [e]
  show (((BitVec.ofNat 32 (j.val + 1)).toInt : ℝ) : EReal) = _
  rw [pos_toInt _ (by omega)]
  simp

/-- The completion's score at a key and a column. -/
theorem pay36_at (q : Vec Ideal S1x1x512x128 .fp8e4m3) (qs : Vec Ideal S1x1x1x512 .f32) (ck : Vec Ideal S1x1x512x128 .fp8e4m3)
    (cks : Vec Ideal S1x1x512x1 .f32) (t j : Fin 512) :
    k0_pay36 (k0_pay13 q) (k0_pay15 qs) ck cks (ix2 t j) = SS q qs ck cks j t := by
  pointwise [k0_pay36, k0_pay13, k0_pay15]
  rw [negInf]
  exact mask_select t j _

/-- The completion's maximal score at a query. -/
theorem pay37_at (q : Vec Ideal S1x1x512x128 .fp8e4m3) (qs : Vec Ideal S1x1x1x512 .f32) (ck : Vec Ideal S1x1x512x128 .fp8e4m3)
    (cks : Vec Ideal S1x1x512x1 .f32) (j : Fin 512) :
    k0_pay37 (k0_pay13 q) (k0_pay15 qs) ck cks (ix2 (0 : Fin 1) j) = mx (SS q qs ck cks j) := by
  have h : ∀ t, k0_pay36 (k0_pay13 q) (k0_pay15 qs) ck cks (ix2 t j) = SS q qs ck cks j t := fun t => pay36_at q qs ck cks t j
  unfold k0_pay37
  generalize k0_pay36 (k0_pay13 q) (k0_pay15 qs) ck cks = y at h
  pointwise []
  rw [negInf]
  simp only [h]
  rfl

/-- The completion's weight of a key at a query. -/
theorem pay38_at (q : Vec Ideal S1x1x512x128 .fp8e4m3) (qs : Vec Ideal S1x1x1x512 .f32) (ck : Vec Ideal S1x1x512x128 .fp8e4m3)
    (cks : Vec Ideal S1x1x512x1 .f32) (t j : Fin 512) :
    k0_pay38 (k0_pay13 q) (k0_pay15 qs) ck cks (ix2 t j) = wt (SS q qs ck cks j) t := by
  have h := pay36_at q qs ck cks t j
  have h' := pay37_at q qs ck cks j
  unfold k0_pay38
  generalize k0_pay36 (k0_pay13 q) (k0_pay15 qs) ck cks = y at h
  generalize k0_pay37 (k0_pay13 q) (k0_pay15 qs) ck cks = y' at h'
  pointwise []
  rw [h, h']
  rfl

/-- The sum of the completion's weights at a query. -/
theorem pay39_at (q : Vec Ideal S1x1x512x128 .fp8e4m3) (qs : Vec Ideal S1x1x1x512 .f32) (ck : Vec Ideal S1x1x512x128 .fp8e4m3)
    (cks : Vec Ideal S1x1x512x1 .f32) (j : Fin 512) :
    k0_pay39 (k0_pay13 q) (k0_pay15 qs) ck cks (ix2 (0 : Fin 1) j) = sm (SS q qs ck cks j) := by
  have h : ∀ t, k0_pay38 (k0_pay13 q) (k0_pay15 qs) ck cks (ix2 t j) = wt (SS q qs ck cks j) t := fun t => pay38_at q qs ck cks t j
  unfold k0_pay39
  generalize k0_pay38 (k0_pay13 q) (k0_pay15 qs) ck cks = y at h
  pointwise []
  simp only [h]
  rfl

/-- The third result's row: the completion's log-sum-exp less the logarithm of the number of keys the query sees. -/
theorem out2_at (q : Vec Ideal S1x1x512x128 .fp8e4m3) (qs : Vec Ideal S1x1x1x512 .f32) (ck : Vec Ideal S1x1x512x128 .fp8e4m3)
    (cks : Vec Ideal S1x1x512x1 .f32) (j : Fin 512) :
    out2 q qs ck cks (ix4 (0 : Fin 1) (0 : Fin 1) (0 : Fin 1) j)
      = lse (SS q qs ck cks j) - Ideal.log (((j.val + 1 : ℕ) : ℝ) : EReal) := by
  have h := pay37_at q qs ck cks j
  have h' := pay39_at q qs ck cks j
  unfold out2
  generalize k0_pay37 (k0_pay13 q) (k0_pay15 qs) ck cks = y at h
  generalize k0_pay39 (k0_pay13 q) (k0_pay15 qs) ck cks = y' at h'
  pointwise [k0_pay44, k0_pay41, k0_pay1]
  rw [h, h', sitofp_succ]
  rfl

end Cert.KernelIdeal.Val

end
-- ==== Proof.Sums.lean ====
/-
  Sums and suprema over the 32768 prompt keys, taken block by block.
-/
module

public import proofs.«01_k».proof.Proof.Math

@[expose] public section

noncomputable section

namespace Cert.Attn

open Idealize.ShloMosaic

/-- A sum over a product of ranges, block by block. -/
theorem sum_blocks {M : Type*} [AddCommMonoid M] (b : ℕ) (f : ℕ → M) (a : ℕ) :
    ∑ n ∈ Finset.range (b * a), f n = ∑ k ∈ Finset.range a, ∑ y ∈ Finset.range b, f (b * k + y) := by
  induction a with
  | zero => simp
  | succ a ih => rw [Nat.mul_succ, Finset.sum_range_add, Finset.sum_range_succ, ih]

/-- The same within one block, by rows and eighths. -/
theorem sum_eighths {M : Type*} [AddCommMonoid M] (f : ℕ → M) (k : ℕ) :
    ∑ r : Fin 8, ∑ x : Fin 128, f (1024 * k + (x.val * 8 + r.val)) = ∑ y ∈ Finset.range 1024, f (1024 * k + y) := by
  rw [Finset.sum_comm]
  have h := sum_blocks 8 (fun y => f (1024 * k + y)) 128
  rw [show 8 * 128 = 1024 from rfl] at h
  rw [h, Finset.sum_range]
  refine Finset.sum_congr rfl fun x _ => ?_
  rw [Finset.sum_range]
  refine Finset.sum_congr rfl fun r _ => ?_
  rw [Nat.mul_comm x.val 8]

/-- The sum over the keys: the 32 blocks' sums over rows of eight. -/
theorem sum_keys8 (f : ℕ → EReal) :
    ∑ r : Fin 8, ∑ k ∈ Finset.range 32, ∑ x : Fin 128, f (1024 * k + (x.val * 8 + r.val)) = ∑ p : Fin 32768, f p.val := by
  rw [Finset.sum_comm]
  simp only [sum_eighths]
  have h := sum_blocks 1024 f 32
  rw [show 1024 * 32 = 32768 from rfl] at h
  rw [← h, Finset.sum_range]

/-- The sum over the keys: the 32 blocks' sums. -/
theorem sum_keys (f : ℕ → EReal) :
    ∑ k ∈ Finset.range 32, ∑ x : Fin 1024, f (1024 * k + x.val) = ∑ p : Fin 32768, f p.val := by
  have h := sum_blocks 1024 f 32
  rw [show 1024 * 32 = 32768 from rfl] at h
  rw [← Finset.sum_range (fun n => f n), h]
  exact Finset.sum_congr rfl fun k _ => (Finset.sum_range (fun y => f (1024 * k + y))).symm

/-- The greatest over the keys: over the eight rows, the blocks and the rows' keys. -/
theorem sup_keys8 (f : ℕ → EReal) :
    (Finset.univ.sup fun r : Fin 8 => (Finset.range 32).sup fun k => Finset.univ.sup fun x : Fin 128 => f (1024 * k + (x.val * 8 + r.val)))
      = Finset.univ.sup fun p : Fin 32768 => f p.val := by
  apply le_antisymm
  · refine Finset.sup_le fun r _ => Finset.sup_le fun k hk => Finset.sup_le fun x _ => ?_
    have hk := Finset.mem_range.mp hk
    exact Finset.le_sup (f := fun p : Fin 32768 => f p.val)
      (Finset.mem_univ (⟨1024 * k + (x.val * 8 + r.val), by omega⟩ : Fin 32768))
  · refine Finset.sup_le fun p _ => ?_
    have e : p.val = 1024 * (p.val / 1024) + (p.val % 1024 / 8 * 8 + p.val % 8) := by omega
    have h1 : f p.val ≤ Finset.univ.sup fun x : Fin 128 => f (1024 * (p.val / 1024) + (x.val * 8 + (⟨p.val % 8, by omega⟩ : Fin 8).val)) := by
      conv_lhs => rw [e]
      exact Finset.le_sup (f := fun x : Fin 128 => f (1024 * (p.val / 1024) + (x.val * 8 + p.val % 8)))
        (Finset.mem_univ (⟨p.val % 1024 / 8, by omega⟩ : Fin 128))
    refine h1.trans ?_
    refine le_trans ?_ (Finset.le_sup (f := fun r : Fin 8 => (Finset.range 32).sup fun k =>
      Finset.univ.sup fun x : Fin 128 => f (1024 * k + (x.val * 8 + r.val))) (Finset.mem_univ (⟨p.val % 8, by omega⟩ : Fin 8)))
    exact Finset.le_sup (f := fun k => Finset.univ.sup fun x : Fin 128 => f (1024 * k + (x.val * 8 + p.val % 8)))
      (Finset.mem_range.mpr (show p.val / 1024 < 32 by omega))

/-- A double supremum over nonempty finite types is one of the values. -/
theorem exists_sup2 {a b : ℕ} (ha : 0 < a) (hb : 0 < b) (f : Fin a → Fin b → EReal) :
    ∃ x y, (Finset.univ.sup fun x => Finset.univ.sup fun y => f x y) = f x y := by
  obtain ⟨x, _, hx⟩ := Finset.exists_mem_eq_sup (Finset.univ : Finset (Fin a)) ⟨⟨0, ha⟩, Finset.mem_univ _⟩ fun x => Finset.univ.sup fun y => f x y
  obtain ⟨y, _, hy⟩ := Finset.exists_mem_eq_sup (Finset.univ : Finset (Fin b)) ⟨⟨0, hb⟩, Finset.mem_univ _⟩ fun y => f x y
  exact ⟨x, y, hx.trans hy⟩

/-- Two attentions of a query, combined by their log-sum-exps. -/
def mix (lp ls op os : EReal) : EReal :=
  Ideal.div (Ideal.exp (lp - max lp ls)) (Ideal.exp (lp - max lp ls) + Ideal.exp (ls - max lp ls)) * op
    + Ideal.div (Ideal.exp (ls - max lp ls)) (Ideal.exp (lp - max lp ls) + Ideal.exp (ls - max lp ls)) * os

/-- The attention of a row: the weighted values over the weights' sum. -/
def att {n : ℕ} (s a : Fin n → EReal) : EReal := Ideal.div (∑ p, a p * wt s p) (sm s)

end Cert.Attn

end
-- ==== Proof.Spec.lean ====
/-
  What both programs compute, at coordinates, over the extended reals: the scores of the prompt's keys and of the completion's
  keys, and the three results from them.
-/
module

public import proofs.«01_k».proof.Proof.Sums
public import Idealize.ShloMosaic.PureOps.Ideal

@[expose] public section

noncomputable section

namespace Cert.Attn

open Idealize.ShloMosaic

/-- The key-value head of a query head. -/
def kv (n : Fin 40) : Fin 8 := ⟨n.val / 5, by have := n.isLt; omega⟩
/-- The page of 128 positions a prompt position lies in. -/
def page (p : Fin 32768) : Fin 256 := ⟨p.val / 128, by have := p.isLt; omega⟩
/-- The query head number `g` of a key-value head. -/
def hd (h : Fin 8) (g : Fin 5) : Fin 40 := ⟨5 * h.val + g.val, by have := h.isLt; have := g.isLt; omega⟩

/-- A query head of a key-value head belongs to it. -/
theorem kv_hd (h : Fin 8) (g : Fin 5) : kv (hd h g) = h := by
  apply Fin.ext; show (5 * h.val + g.val) / 5 = h.val; have := g.isLt; omega

/-- The constant both programs scale the scores by. -/
abbrev scl : EReal := Ideal.ofBits .f32 0x3DB504F3#32
/-- The constant both programs take off the prompt's log-sum-exp. -/
abbrev off : EReal := Ideal.ofBits .f32 0x41265AF6#32

/-- A prompt array times its pages' scales. -/
def deq (x : Fin 32768 → Fin 8 → Fin 128 → EReal) (s : Fin 256 → Fin 8 → Fin 128 → EReal) (h : Fin 8) (p : Fin 32768) (d : Fin 128) :
    EReal := x p h d * s (page p) h d

section
variable (q : Fin 4 → Fin 512 → Fin 40 → Fin 128 → EReal) (qs : Fin 4 → Fin 512 → Fin 40 → EReal)
  (pk pv : Fin 32768 → Fin 8 → Fin 128 → EReal) (pks pvs : Fin 256 → Fin 8 → Fin 128 → EReal)
  (k v : Fin 4 → Fin 512 → Fin 8 → Fin 128 → EReal) (ks vs : Fin 4 → Fin 512 → Fin 8 → EReal)
  (b : Fin 4) (t : Fin 512) (n : Fin 40)

/-- A prompt key's score. -/
def scoreP (p : Fin 32768) : EReal := (∑ d : Fin 128, deq pk pks (kv n) p d * q b t n d) * (qs b t n * scl)
/-- A completion key's score: none for a key after the query. -/
def scoreS (s : Fin 512) : EReal :=
  if t.val < s.val then ⊥ else (∑ d : Fin 128, k b s (kv n) d * q b t n d) * (qs b t n * scl) * ks b s (kv n)
/-- The first result: the two attentions, each weighted by its share. -/
def res0 (d : Fin 128) : EReal :=
  mix (lse (scoreP q qs pk pks b t n)) (lse (scoreS q qs k ks b t n))
    (att (scoreP q qs pk pks b t n) fun p => deq pv pvs (kv n) p d)
    (att (scoreS q qs k ks b t n) fun s => v b s (kv n) d * vs b s (kv n))
/-- The second result: the prompt's log-sum-exp less a constant. -/
def res1 : EReal := lse (scoreP q qs pk pks b t n) - off
/-- The third result: the completion's log-sum-exp less the logarithm of the number of keys seen. -/
def res2 : EReal := lse (scoreS q qs k ks b t n) - Ideal.log (((t.val + 1 : ℕ) : ℝ) : EReal)
end

end Cert.Attn

end
-- ==== Proof.RefA.lean ====
/-
  The reference's values at coordinates.
-/
module

public import proofs.«01_k».proof.Proof.Gen.ReferenceIdeal.Read
public import proofs.«01_k».proof.Proof.PayC
public import proofs.«01_k».proof.Proof.Spec
public import Idealize.ShloMosaic.Lib.Pointwise
public import Idealize.ShloMosaic.PureOps.Ideal
public import Idealize.ShloMosaic.PureOps.Ideal.Laws

@[expose] public section

set_option maxRecDepth 16384

noncomputable section

namespace Cert.ReferenceIdeal.Val

open Cert.ReferenceIdeal Cert.ReferenceIdeal.Gen Cert.ReferenceIdeal.Read
open Idealize.ShloMosaic Idealize.ShloMosaic.TcCoe
open Cert.Attn
open Cert.KernelIdeal.Val (fold_max negInf mask_select sitofp_succ)

variable (x1 : (⟨S4x512x40, .f32⟩ : BufTy).Contents (Elt Ideal)) (x4 x5 : (⟨S256x8x128, .f32⟩ : BufTy).Contents (Elt Ideal))
  (x8 x9 : (⟨S4x512x8, .f32⟩ : BufTy).Contents (Elt Ideal))
  (r0 : (⟨S4x512x40x128, .bf16⟩ : BufTy).Contents (Elt Ideal)) (r1 r2 : (⟨S32768x8x128, .bf16⟩ : BufTy).Contents (Elt Ideal))
  (r3 r4 : (⟨S4x512x8x128, .bf16⟩ : BufTy).Contents (Elt Ideal))

/-- The dequantised prompt keys. -/
theorem v6_at (p : Fin 32768) (h : Fin 8) (d : Fin 128) :
    val_main_v6 (F := Ideal) x4 r1 (ix3 p h d) = deq (fun p h d => r1 (ix3 p h d)) (fun p h d => x4 (ix3 p h d)) h p d := by
  rw [val_main_v6_apply, val_main_v5_apply, val_main_v1_apply, val_main_v4_apply, val_main_v3_apply, val_main_v2_apply]
  have hp := p.isLt; have hh := h.isLt; have hd := d.isLt
  have e1 : idx_main_v1 (idx_main_v6 (ix3 p h d)) = ix3 p h d := by
    funext a; apply Fin.ext; fin_cases a <;> simp [idx_main_v1, idx_main_v6, ix3] <;> omega
  have e2 : idx_main_v3 (idx_main_v4 (idx_main_v6 (ix3 p h d))) = ix3 (page p) h d := by
    funext a; apply Fin.ext; fin_cases a <;> simp [idx_main_v3, idx_main_v4, idx_main_v6, ix3, page] <;> omega
  rw [e1, e2]
  rfl

/-- The query, its heads two axes. -/
theorem v13_at (b : Fin 4) (t : Fin 512) (h : Fin 8) (g : Fin 5) (d : Fin 128) :
    val_main_v13 (F := Ideal) r0 (ix5 b t h g d) = r0 (ix4 b t (hd h g) d) := by
  rw [val_main_v13_apply]
  have hb := b.isLt; have ht := t.isLt; have hh := h.isLt; have hg := g.isLt; have h_d := d.isLt
  congr 1
  funext a; apply Fin.ext; fin_cases a <;> simp [idx_main_v13, ix4, ix5, hd] <;> omega

/-- The scale. -/
theorem v16_at (b : Fin 4) (t : Fin 512) (h : Fin 8) (g : Fin 5) :
    val_main_v16 (F := Ideal) x1 (ix4 b t h g) = x1 (ix3 b t (hd h g)) * scl := by
  rw [val_main_v16_apply, val_main_v15_apply, val_main_v14_apply, val_main_cst_apply]
  have hb := b.isLt; have ht := t.isLt; have hh := h.isLt; have hg := g.isLt
  have e : idx_main_v16 (ix4 b t h g) = ix3 b t (hd h g) := by
    funext a; apply Fin.ext; fin_cases a <;> simp [idx_main_v16, ix3, ix4, hd] <;> omega
  rw [e]
  rfl

/-- The prompt's scores. -/
theorem v21_at (b : Fin 4) (t : Fin 512) (h : Fin 8) (g : Fin 5) (p : Fin 32768) :
    val_main_v21 (F := Ideal) x1 x4 r0 r1 (ix5 b t h g p)
      = scoreP (fun b t n d => r0 (ix4 b t n d)) (fun b t n => x1 (ix3 b t n)) (fun p h d => r1 (ix3 p h d)) (fun p h d => x4 (ix3 p h d))
          b t (hd h g) p := by
  have e6 := fun d => v6_at x4 r1 p h d
  have e13 := fun d => v13_at r0 b t h g d
  have e16 := v16_at x1 b t h g
  rw [val_main_v21_apply, val_main_v20_apply, val_main_v19_apply, val_main_v18_apply, val_main_v17_apply]
  rw [scoreP, kv_hd]
  simp only [← e6, ← e13, ← e16]
  rfl

/-- The greatest score. -/
theorem v22_at (b : Fin 4) (t : Fin 512) (h : Fin 8) (g : Fin 5) :
    val_main_v22 (F := Ideal) x1 x4 r0 r1 (ix4 b t h g)
      = mx fun p => val_main_v21 (F := Ideal) x1 x4 r0 r1 (ix5 b t h g p) := by
  unfold val_main_v22
  generalize val_main_v21 (F := Ideal) x1 x4 r0 r1 = y
  pointwise [val_main_cst_0]
  rw [negInf, fold_max]
  rfl

/-- The weights. -/
theorem v26_at (b : Fin 4) (t : Fin 512) (h : Fin 8) (g : Fin 5) (p : Fin 32768) :
    val_main_v26 (F := Ideal) x1 x4 r0 r1 (ix5 b t h g p)
      = wt (fun p => val_main_v21 (F := Ideal) x1 x4 r0 r1 (ix5 b t h g p)) p := by
  have e := v22_at x1 x4 r0 r1 b t h g
  unfold val_main_v26 val_main_v25 val_main_v24 val_main_v23
  generalize val_main_v22 (F := Ideal) x1 x4 r0 r1 = y at e
  generalize val_main_v21 (F := Ideal) x1 x4 r0 r1 = z at e
  pointwise []
  rw [e]
  rfl

/-- The weights' sum. -/
theorem v27_at (b : Fin 4) (t : Fin 512) (h : Fin 8) (g : Fin 5) :
    val_main_v27 (F := Ideal) x1 x4 r0 r1 (ix4 b t h g)
      = sm fun p => val_main_v21 (F := Ideal) x1 x4 r0 r1 (ix5 b t h g p) := by
  have e := fun p => v26_at x1 x4 r0 r1 b t h g p
  unfold val_main_v27
  generalize val_main_v26 (F := Ideal) x1 x4 r0 r1 = y at e
  pointwise [val_main_cst_1]
  simp only [e]
  rfl

/-- The prompt's log-sum-exp. -/
theorem v35_at (b : Fin 4) (t : Fin 512) (h : Fin 8) (g : Fin 5) :
    val_main_v35 (F := Ideal) x1 x4 r0 r1 (ix4 b t h g)
      = lse fun p => val_main_v21 (F := Ideal) x1 x4 r0 r1 (ix5 b t h g p) := by
  have e := v22_at x1 x4 r0 r1 b t h g
  have e' := v27_at x1 x4 r0 r1 b t h g
  rw [val_main_v35_apply, val_main_v34_apply, e, e', Ideal.addf_def, Ideal.hostUnary_log_def]
  rfl

/-- The dequantised prompt values. -/
theorem v12_at (p : Fin 32768) (h : Fin 8) (d : Fin 128) :
    val_main_v12 (F := Ideal) x5 r2 (ix3 p h d) = deq (fun p h d => r2 (ix3 p h d)) (fun p h d => x5 (ix3 p h d)) h p d := by
  rw [val_main_v12_apply, val_main_v11_apply, val_main_v7_apply, val_main_v10_apply, val_main_v9_apply, val_main_v8_apply]
  have hp := p.isLt; have hh := h.isLt; have hd := d.isLt
  have e1 : idx_main_v7 (idx_main_v12 (ix3 p h d)) = ix3 p h d := by
    funext a; apply Fin.ext; fin_cases a <;> simp [idx_main_v7, idx_main_v12, ix3] <;> omega
  have e2 : idx_main_v9 (idx_main_v10 (idx_main_v12 (ix3 p h d))) = ix3 (page p) h d := by
    funext a; apply Fin.ext; fin_cases a <;> simp [idx_main_v9, idx_main_v10, idx_main_v12, ix3, page] <;> omega
  rw [e1, e2]
  rfl

/-- The prompt's attention. -/
theorem v33_at (b : Fin 4) (t : Fin 512) (h : Fin 8) (g : Fin 5) (d : Fin 128) :
    val_main_v33 (F := Ideal) x1 x4 x5 r0 r1 r2 (ix5 b t h g d)
      = att (fun p => val_main_v21 (F := Ideal) x1 x4 r0 r1 (ix5 b t h g p)) fun p => val_main_v12 (F := Ideal) x5 r2 (ix3 p h d) := by
  have e := fun p => v26_at x1 x4 r0 r1 b t h g p
  have e' := v27_at x1 x4 r0 r1 b t h g
  unfold val_main_v33 val_main_v32 val_main_v31 val_main_v30 val_main_v29 val_main_v28
  generalize val_main_v26 (F := Ideal) x1 x4 r0 r1 = y at e
  generalize val_main_v27 (F := Ideal) x1 x4 r0 r1 = z at e'
  generalize val_main_v12 (F := Ideal) x5 r2 = v
  pointwise []
  rw [e']
  simp only [e]
  rfl

/-- The completion's scores. -/
theorem v51_at (b : Fin 4) (t : Fin 512) (h : Fin 8) (g : Fin 5) (s : Fin 512) :
    val_main_v51 (F := Ideal) x1 x8 r0 r3 (ix5 b t h g s)
      = scoreS (fun b t n d => r0 (ix4 b t n d)) (fun b t n => x1 (ix3 b t n)) (fun b t h d => r3 (ix4 b t h d)) (fun b t h => x8 (ix3 b t h))
          b t (hd h g) s := by
  have e13 := fun d => v13_at r0 b t h g d
  have e16 := v16_at x1 b t h g
  unfold val_main_v51 val_main_call0_v1 val_main_call0_v2 val_main_call0_v0 val_main_v50 val_main_v49 val_main_v48 val_main_v47
    val_main_v46 val_main_v45 val_main_v44 val_main_v43 val_main_v42 val_main_v41 val_main_v40 val_main_v39 val_main_v38 val_main_v37
    val_main_v36
  generalize val_main_v13 (F := Ideal) r0 = y at e13
  generalize val_main_v16 (F := Ideal) x1 = z at e16
  pointwise [val_main_cst_2]
  rw [show (id (constant (F := Ideal) S_ .f32 0xFF800000#32) ix0 : EReal) = ⊥ from negInf, e16]
  simp only [e13]
  rw [mask_select, scoreS, kv_hd]

/-- The greatest score. -/
theorem v52_at (b : Fin 4) (t : Fin 512) (h : Fin 8) (g : Fin 5) :
    val_main_v52 (F := Ideal) x1 x8 r0 r3 (ix4 b t h g)
      = mx fun p => val_main_v51 (F := Ideal) x1 x8 r0 r3 (ix5 b t h g p) := by
  unfold val_main_v52
  generalize val_main_v51 (F := Ideal) x1 x8 r0 r3 = y
  pointwise [val_main_cst_3]
  rw [negInf, fold_max]
  rfl

/-- The weights. -/
theorem v56_at (b : Fin 4) (t : Fin 512) (h : Fin 8) (g : Fin 5) (p : Fin 512) :
    val_main_v56 (F := Ideal) x1 x8 r0 r3 (ix5 b t h g p)
      = wt (fun p => val_main_v51 (F := Ideal) x1 x8 r0 r3 (ix5 b t h g p)) p := by
  have e := v52_at x1 x8 r0 r3 b t h g
  unfold val_main_v56 val_main_v55 val_main_v54 val_main_v53
  generalize val_main_v52 (F := Ideal) x1 x8 r0 r3 = y at e
  generalize val_main_v51 (F := Ideal) x1 x8 r0 r3 = z at e
  pointwise []
  rw [e]
  rfl

/-- The weights' sum. -/
theorem v57_at (b : Fin 4) (t : Fin 512) (h : Fin 8) (g : Fin 5) :
    val_main_v57 (F := Ideal) x1 x8 r0 r3 (ix4 b t h g)
      = sm fun p => val_main_v51 (F := Ideal) x1 x8 r0 r3 (ix5 b t h g p) := by
  have e := fun p => v56_at x1 x8 r0 r3 b t h g p
  unfold val_main_v57
  generalize val_main_v56 (F := Ideal) x1 x8 r0 r3 = y at e
  pointwise [val_main_cst_4]
  simp only [e]
  rfl

/-- The completion's log-sum-exp. -/
theorem v69_at (b : Fin 4) (t : Fin 512) (h : Fin 8) (g : Fin 5) :
    val_main_v69 (F := Ideal) x1 x8 r0 r3 (ix4 b t h g)
      = lse fun p => val_main_v51 (F := Ideal) x1 x8 r0 r3 (ix5 b t h g p) := by
  have e := v52_at x1 x8 r0 r3 b t h g
  have e' := v57_at x1 x8 r0 r3 b t h g
  rw [val_main_v69_apply, val_main_v68_apply, e, e', Ideal.addf_def, Ideal.hostUnary_log_def]
  rfl

/-- The completion's attention. -/
theorem v67_at (b : Fin 4) (t : Fin 512) (h : Fin 8) (g : Fin 5) (d : Fin 128) :
    val_main_v67 (F := Ideal) x1 x8 x9 r0 r3 r4 (ix5 b t h g d)
      = att (fun p => val_main_v51 (F := Ideal) x1 x8 r0 r3 (ix5 b t h g p)) fun s => r4 (ix4 b s h d) * x9 (ix3 b s h) := by
  have e := fun p => v56_at x1 x8 r0 r3 b t h g p
  have e' := v57_at x1 x8 r0 r3 b t h g
  unfold val_main_v67 val_main_v66 val_main_v65 val_main_v64 val_main_v63 val_main_v62 val_main_v61 val_main_v60 val_main_v59 val_main_v58
  generalize val_main_v56 (F := Ideal) x1 x8 r0 r3 = y at e
  generalize val_main_v57 (F := Ideal) x1 x8 r0 r3 = z at e'
  pointwise []
  rw [e']
  simp only [e]
  unfold att
  congr 1
  exact Finset.sum_congr rfl fun s _ => by rw [mul_comm (wt _ _), mul_assoc]

/-- The two attentions combined. -/
theorem v85_at (b : Fin 4) (t : Fin 512) (h : Fin 8) (g : Fin 5) (d : Fin 128) :
    val_main_v85 (F := Ideal) x1 x4 x5 x8 x9 r0 r1 r2 r3 r4 (ix5 b t h g d)
      = mix (val_main_v35 (F := Ideal) x1 x4 r0 r1 (ix4 b t h g)) (val_main_v69 (F := Ideal) x1 x8 r0 r3 (ix4 b t h g))
          (val_main_v33 (F := Ideal) x1 x4 x5 r0 r1 r2 (ix5 b t h g d)) (val_main_v67 (F := Ideal) x1 x8 x9 r0 r3 r4 (ix5 b t h g d)) := by
  have e1 : idx_main_v77 (idx_main_v78 (ix5 b t h g d)) = ix4 b t h g := by
    funext a; apply Fin.ext; fin_cases a <;> rfl
  have e2 : idx_main_v82 (idx_main_v83 (ix5 b t h g d)) = ix4 b t h g := by
    funext a; apply Fin.ext; fin_cases a <;> rfl
  rw [val_main_v85_apply, val_main_v84_apply, val_main_v83_apply, val_main_v82_apply, val_main_v79_apply, val_main_v78_apply,
    val_main_v77_apply, e1, e2]
  rw [val_main_v81_apply, val_main_v76_apply, val_main_v80_apply, val_main_v75_apply, val_main_v72_apply, val_main_v74_apply,
    val_main_v71_apply, val_main_v73_apply, val_main_v70_apply]
  generalize val_main_v35 (F := Ideal) x1 x4 r0 r1 (ix4 b t h g) = y1
  generalize val_main_v69 (F := Ideal) x1 x8 r0 r3 (ix4 b t h g) = y2
  generalize val_main_v33 (F := Ideal) x1 x4 x5 r0 r1 r2 (ix5 b t h g d) = y3
  generalize val_main_v67 (F := Ideal) x1 x8 x9 r0 r3 r4 (ix5 b t h g d) = y4
  simp only [Ideal.addf_def, Ideal.subf_def, Ideal.mulf_def, Ideal.hostDivf_def, Ideal.maximumf_def, Ideal.hostUnary_exp_def]
  rfl

/-- The prompt's log-sum-exp, in the arguments. -/
theorem lseP_at (b : Fin 4) (t : Fin 512) (h : Fin 8) (g : Fin 5) :
    val_main_v35 (F := Ideal) x1 x4 r0 r1 (ix4 b t h g)
      = lse (scoreP (fun b t n d => r0 (ix4 b t n d)) (fun b t n => x1 (ix3 b t n)) (fun p h d => r1 (ix3 p h d)) (fun p h d => x4 (ix3 p h d))
          b t (hd h g)) := by
  rw [v35_at]
  exact congrArg lse (funext fun p => v21_at x1 x4 r0 r1 b t h g p)

/-- The completion's log-sum-exp, in the arguments. -/
theorem lseS_at (b : Fin 4) (t : Fin 512) (h : Fin 8) (g : Fin 5) :
    val_main_v69 (F := Ideal) x1 x8 r0 r3 (ix4 b t h g)
      = lse (scoreS (fun b t n d => r0 (ix4 b t n d)) (fun b t n => x1 (ix3 b t n)) (fun b t h d => r3 (ix4 b t h d))
          (fun b t h => x8 (ix3 b t h)) b t (hd h g)) := by
  rw [v69_at]
  exact congrArg lse (funext fun p => v51_at x1 x8 r0 r3 b t h g p)

/-- A query head is a query head of its key-value head. -/
theorem hd_kv (n : Fin 40) : hd (kv n) ⟨n.val % 5, Nat.mod_lt _ (by decide)⟩ = n := by
  apply Fin.ext; show 5 * (n.val / 5) + n.val % 5 = n.val; omega

/-- The first result at coordinates. -/
theorem v87_at (b : Fin 4) (t : Fin 512) (n : Fin 40) (d : Fin 128) (x : Fin 5120) (hx : x.val = 128 * n.val + d.val) :
    val_main_v87 (F := Ideal) x1 x4 x5 x8 x9 r0 r1 r2 r3 r4 (ix3 b t x)
      = res0 (fun b t n d => r0 (ix4 b t n d)) (fun b t n => x1 (ix3 b t n)) (fun p h d => r1 (ix3 p h d)) (fun p h d => r2 (ix3 p h d))
          (fun p h d => x4 (ix3 p h d)) (fun p h d => x5 (ix3 p h d)) (fun b t h d => r3 (ix4 b t h d)) (fun b t h d => r4 (ix4 b t h d))
          (fun b t h => x8 (ix3 b t h)) (fun b t h => x9 (ix3 b t h)) b t n d := by
  obtain ⟨h, g, rfl⟩ : ∃ h g, n = hd h g := ⟨kv n, _, (hd_kv n).symm⟩
  have hb := b.isLt; have ht := t.isLt; have hh := h.isLt; have hg := g.isLt; have h_d := d.isLt
  have e : idx_main_v86 (ix3 b t x) = ix5 b t h g d := by
    funext a; apply Fin.ext; fin_cases a <;> simp [idx_main_v86, ix3, ix5, hx, hd] <;> omega
  rw [val_main_v87_apply, val_main_v86_apply, e, v85_at, lseP_at, lseS_at, v33_at, v67_at, res0, kv_hd, Ideal.truncf_def]
  congr 2
  · exact funext fun p => v21_at x1 x4 r0 r1 b t h g p
  · exact funext fun p => v12_at x5 r2 p h d
  · exact funext fun p => v51_at x1 x8 r0 r3 b t h g p

/-- The second result at coordinates. -/
theorem v90_at (b : Fin 4) (t : Fin 512) (n : Fin 40) :
    val_main_v90 (F := Ideal) x1 x4 r0 r1 (ix3 b t n)
      = res1 (fun b t n d => r0 (ix4 b t n d)) (fun b t n => x1 (ix3 b t n)) (fun p h d => r1 (ix3 p h d)) (fun p h d => x4 (ix3 p h d))
          b t n := by
  obtain ⟨h, g, rfl⟩ : ∃ h g, n = hd h g := ⟨kv n, _, (hd_kv n).symm⟩
  have hb := b.isLt; have ht := t.isLt; have hh := h.isLt; have hg := g.isLt
  have e : idx_main_v88 (ix3 b t (hd h g)) = ix4 b t h g := by
    funext a; apply Fin.ext; fin_cases a <;> simp [idx_main_v88, ix3, ix4, hd] <;> omega
  rw [val_main_v90_apply, val_main_v88_apply, e, lseP_at, val_main_v89_apply, val_main_cst_5_apply, Ideal.subf_def]
  rfl

/-- The third result at coordinates. -/
theorem v98_at (b : Fin 4) (t : Fin 512) (n : Fin 40) :
    val_main_v98 (F := Ideal) x1 x8 r0 r3 (ix3 b t n)
      = res2 (fun b t n d => r0 (ix4 b t n d)) (fun b t n => x1 (ix3 b t n)) (fun b t h d => r3 (ix4 b t h d)) (fun b t h => x8 (ix3 b t h))
          b t n := by
  obtain ⟨h, g, rfl⟩ : ∃ h g, n = hd h g := ⟨kv n, _, (hd_kv n).symm⟩
  have hb := b.isLt; have ht := t.isLt; have hh := h.isLt; have hg := g.isLt
  have e : idx_main_v91 (ix3 b t (hd h g)) = ix4 b t h g := by
    funext a; apply Fin.ext; fin_cases a <;> simp [idx_main_v91, ix3, ix4, hd] <;> omega
  rw [val_main_v98_apply, val_main_v91_apply, e, lseS_at, val_main_v97_apply, val_main_v96_apply, val_main_v95_apply, val_main_v94_apply,
    val_main_v93_apply, val_main_cst_6_apply, Ideal.subf_def, Ideal.hostUnary_log_def, Ideal.addf_def, res2]
  congr 2
  show (Ideal.ofBits .f32 0x3F800000#32 : EReal) + (FloatOps.sitofp (F := Ideal) .f32 (BitVec.ofNat 32 t.val)) = _
  have e1 : (Ideal.ofBits .f32 0x3F800000#32 : EReal) = ((1 : ℝ) : EReal) := by simp [Ideal.ofBits, Ideal.ieee, -EReal.coe_mul]; norm_num
  have e2 : (FloatOps.sitofp (F := Ideal) .f32 (BitVec.ofNat 32 t.val) : EReal) = ((t.val : ℝ) : EReal) := by
    show (((BitVec.ofNat 32 t.val).toInt : ℝ) : EReal) = _
    rw [Cert.KernelIdeal.Val.pos_toInt _ (by omega)]
    simp
  rw [e1, e2, ← EReal.coe_add]
  congr 1
  push_cast
  ring

end Cert.ReferenceIdeal.Val

end
-- ==== Proof.Arrays.lean ====
/-
  The three results as arrays of the ten argument arrays.
-/
module

public import Idealize.ShloMosaic.Lib.Pointwise
public import Idealize.ShloMosaic.PureOps.Ideal
public import proofs.«01_k».proof.Proof.Spec

@[expose] public section

noncomputable section

namespace Cert.Attn

open Idealize.ShloMosaic

/-- An array of the given extents. -/
abbrev Arr3 (a b c : ℕ) := (⟨3, ![a, b, c]⟩ : Shape).Idx → EReal
/-- An array of four given extents. -/
abbrev Arr4 (a b c d : ℕ) := (⟨4, ![a, b, c, d]⟩ : Shape).Idx → EReal

section
variable (a0 : Arr4 4 512 40 128) (a1 : Arr3 4 512 40) (a2 a3 : Arr3 32768 8 128) (a4 a5 : Arr3 256 8 128)
  (a6 a7 : Arr4 4 512 8 128) (a8 a9 : Arr3 4 512 8)

/-- The first result: head `n`'s 128 columns start at column `128 n`. -/
def arr0 : Arr3 4 512 5120 := fun y =>
  res0 (fun b t n d => a0 (ix4 b t n d)) (fun b t n => a1 (ix3 b t n)) (fun p h d => a2 (ix3 p h d)) (fun p h d => a3 (ix3 p h d))
    (fun p h d => a4 (ix3 p h d)) (fun p h d => a5 (ix3 p h d)) (fun b t h d => a6 (ix4 b t h d)) (fun b t h d => a7 (ix4 b t h d))
    (fun b t h => a8 (ix3 b t h)) (fun b t h => a9 (ix3 b t h)) (y 0) (y 1)
    ⟨(y 2).val / 128, by have h : (y 2).val < 5120 := (y 2).isLt; omega⟩ ⟨(y 2).val % 128, Nat.mod_lt _ (by norm_num)⟩
/-- The second result. -/
def arr1 : Arr3 4 512 40 := fun y =>
  res1 (fun b t n d => a0 (ix4 b t n d)) (fun b t n => a1 (ix3 b t n)) (fun p h d => a2 (ix3 p h d))
    (fun p h d => a4 (ix3 p h d)) (y 0) (y 1) (y 2)
/-- The third result. -/
def arr2 : Arr3 4 512 40 := fun y =>
  res2 (fun b t n d => a0 (ix4 b t n d)) (fun b t n => a1 (ix3 b t n)) (fun b t h d => a6 (ix4 b t h d))
    (fun b t h => a8 (ix3 b t h)) (y 0) (y 1) (y 2)
end

end Cert.Attn

end
-- ==== Proof.RefB.lean ====
/-
  The reference's run with its results as arrays of its arguments.
-/
module

public import proofs.«01_k».proof.Proof.Gen.ReferenceIdeal.Run
public import proofs.«01_k».proof.Proof.Gen.ReferenceIdeal.Read
public import proofs.«01_k».proof.Proof.RefA
public import proofs.«01_k».proof.Proof.Arrays
public import Idealize.ShloMosaic.Lib.Pipeline.ValueKit
public import Idealize.ShloMosaic.Lib.Pointwise
public import Idealize.ShloMosaic.PureOps.Ideal
public import Idealize.ShloMosaic.PureOps.Ideal.Laws

@[expose] public section

set_option maxRecDepth 16384

noncomputable section

namespace Cert.ReferenceIdeal.Val

open Cert.ReferenceIdeal Cert.ReferenceIdeal.Gen Cert.ReferenceIdeal.Read Cert.ReferenceIdeal.Value
open Idealize.ShloMosaic Idealize.ShloMosaic.TcCoe
open Idealize.SL.Sem
open Cert.Attn

variable (m : (ℓ : Loc nD τ sig) → Buf (Elt Ideal) ℓ) (ρ : Dev nD → PrngReg)

/-- The cast region leaves argument 0 in its result number 0. -/
theorem reg_eq0 (c : Dev nD) (y) : (reg_main_v0_0 m c y : EReal) = m ((c.tc : Thread nD τ).loc main_arg0) y := by
  suffices h : (Gen.dats m 0 c).arrAt 5 cfg0.N = fun y => (m ((c.tc : Thread nD τ).loc main_arg0) y : EReal) from congrFun h y
  refine Pipeline.Dat.arrAt_eq_of_covers (Gen.dats m 0 c) 5 _ (by decide +kernel) fun t hf y => ?_
  blk_simp
  rw [after0_5]
  frame_out
  unfold k0_pay1
  refine (?_ : (iblk m c 0 t y : EReal) = V m c main_arg0 ((win0_5.blk t).view.emb y)).trans (congrFun (V_main_arg0 m c) _)
  blk_simp [iblk]
  congr 1

/-- The cast region leaves argument 2 in its result number 1. -/
theorem reg_eq1 (c : Dev nD) (y) : (reg_main_v0_1 m c y : EReal) = m ((c.tc : Thread nD τ).loc main_arg2) y := by
  suffices h : (Gen.dats m 0 c).arrAt 6 cfg0.N = fun y => (m ((c.tc : Thread nD τ).loc main_arg2) y : EReal) from congrFun h y
  refine Pipeline.Dat.arrAt_eq_of_covers (Gen.dats m 0 c) 6 _ (by decide +kernel) fun t hf y => ?_
  blk_simp
  rw [after0_6]
  frame_out
  unfold k0_pay2
  refine (?_ : (iblk m c 1 t y : EReal) = V m c main_arg2 ((win0_6.blk t).view.emb y)).trans (congrFun (V_main_arg2 m c) _)
  blk_simp [iblk]
  congr 1

/-- The cast region leaves argument 3 in its result number 2. -/
theorem reg_eq2 (c : Dev nD) (y) : (reg_main_v0_2 m c y : EReal) = m ((c.tc : Thread nD τ).loc main_arg3) y := by
  suffices h : (Gen.dats m 0 c).arrAt 7 cfg0.N = fun y => (m ((c.tc : Thread nD τ).loc main_arg3) y : EReal) from congrFun h y
  refine Pipeline.Dat.arrAt_eq_of_covers (Gen.dats m 0 c) 7 _ (by decide +kernel) fun t hf y => ?_
  blk_simp
  rw [after0_7]
  frame_out
  unfold k0_pay3
  refine (?_ : (iblk m c 2 t y : EReal) = V m c main_arg3 ((win0_7.blk t).view.emb y)).trans (congrFun (V_main_arg3 m c) _)
  blk_simp [iblk]
  congr 1

/-- The cast region leaves argument 6 in its result number 3. -/
theorem reg_eq3 (c : Dev nD) (y) : (reg_main_v0_3 m c y : EReal) = m ((c.tc : Thread nD τ).loc main_arg6) y := by
  suffices h : (Gen.dats m 0 c).arrAt 8 cfg0.N = fun y => (m ((c.tc : Thread nD τ).loc main_arg6) y : EReal) from congrFun h y
  refine Pipeline.Dat.arrAt_eq_of_covers (Gen.dats m 0 c) 8 _ (by decide +kernel) fun t hf y => ?_
  blk_simp
  rw [after0_8]
  frame_out
  unfold k0_pay4
  refine (?_ : (iblk m c 3 t y : EReal) = V m c main_arg6 ((win0_8.blk t).view.emb y)).trans (congrFun (V_main_arg6 m c) _)
  blk_simp [iblk]
  congr 1

/-- The cast region leaves argument 7 in its result number 4. -/
theorem reg_eq4 (c : Dev nD) (y) : (reg_main_v0_4 m c y : EReal) = m ((c.tc : Thread nD τ).loc main_arg7) y := by
  suffices h : (Gen.dats m 0 c).arrAt 9 cfg0.N = fun y => (m ((c.tc : Thread nD τ).loc main_arg7) y : EReal) from congrFun h y
  refine Pipeline.Dat.arrAt_eq_of_covers (Gen.dats m 0 c) 9 _ (by decide +kernel) fun t hf y => ?_
  blk_simp
  rw [after0_9]
  frame_out
  unfold k0_pay5
  refine (?_ : (iblk m c 4 t y : EReal) = V m c main_arg7 ((win0_9.blk t).view.emb y)).trans (congrFun (V_main_arg7 m c) _)
  blk_simp [iblk]
  congr 1

/-- The three results at the exit contents are the three arrays of the arguments. -/
theorem res_eq0 (c : Dev nD) : Pipeline.afterTail₀ cfgs (Gen.dats m) 0 (Gen.V0 m) [Gen.hostOps1, Gen.hostOps1_1, Gen.hostOps1_2] c main_v87
    = arr0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [fin_main_v87, val_main_v87_eq, exit_main_arg1, exit_main_arg4, exit_main_arg5, exit_main_arg8, exit_main_arg9, exit_main_v0_0,
    exit_main_v0_1, exit_main_v0_2, exit_main_v0_3, exit_main_v0_4]
  funext y
  obtain ⟨b, t, x, rfl⟩ : ∃ (b : Fin 4) (t : Fin 512) (x : Fin 5120), y = ix3 b t x := ⟨y 0, y 1, y 2, eq_ix3 y⟩
  have hx := x.isLt
  refine (v87_at _ _ _ _ _ _ _ _ _ _ b t ⟨x.val / 128, by omega⟩ ⟨x.val % 128, by omega⟩ x (by show x.val = 128 * (x.val / 128) + x.val % 128; omega)).trans ?_
  simp only [reg_eq0, reg_eq1, reg_eq2, reg_eq3, reg_eq4]
  rfl
/-- The second result is the second array of the arguments. -/
theorem res_eq1 (c : Dev nD) : Pipeline.afterTail₀ cfgs (Gen.dats m) 0 (Gen.V0 m) [Gen.hostOps1, Gen.hostOps1_1, Gen.hostOps1_2] c main_v90
    = arr1 (m ((c.tc : Thread nD τ).loc main_arg0)) (m ((c.tc : Thread nD τ).loc main_arg1)) (m ((c.tc : Thread nD τ).loc main_arg2)) (m ((c.tc : Thread nD τ).loc main_arg4)) := by
  rw [fin_main_v90, val_main_v90_eq, exit_main_arg1, exit_main_arg4, exit_main_v0_0, exit_main_v0_1]
  funext y
  obtain ⟨b, t, n, rfl⟩ : ∃ (b : Fin 4) (t : Fin 512) (n : Fin 40), y = ix3 b t n := ⟨y 0, y 1, y 2, eq_ix3 y⟩
  refine (v90_at _ _ _ _ b t n).trans ?_
  simp only [reg_eq0, reg_eq1]
  rfl
/-- The third result is the third array of the arguments. -/
theorem res_eq2 (c : Dev nD) : Pipeline.afterTail₀ cfgs (Gen.dats m) 0 (Gen.V0 m) [Gen.hostOps1, Gen.hostOps1_1, Gen.hostOps1_2] c main_v98
    = arr2 (m ((c.tc : Thread nD τ).loc main_arg0)) (m ((c.tc : Thread nD τ).loc main_arg1)) (m ((c.tc : Thread nD τ).loc main_arg6)) (m ((c.tc : Thread nD τ).loc main_arg8)) := by
  rw [fin_main_v98, val_main_v98_eq, exit_main_arg1, exit_main_arg8, exit_main_v0_0, exit_main_v0_3]
  funext y
  obtain ⟨b, t, n, rfl⟩ : ∃ (b : Fin 4) (t : Fin 512) (n : Fin 40), y = ix3 b t n := ⟨y 0, y 1, y 2, eq_ix3 y⟩
  refine (v98_at _ _ _ _ b t n).trans ?_
  simp only [reg_eq0, reg_eq3]
  rfl

/-- The reference's run: the three results are the three arrays of the arguments, and the arguments are unchanged. -/
theorem ref_run :
    θ_run (defs (F := Ideal)) (onTc (τ := τ) (main (F := Ideal))) ⟨m, fun _ => 0, ρ⟩ fun r => ∀ c : Dev nD,
      r.2.mem ((c.tc : Thread nD τ).loc main_v87) = arr0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v90) = arr1 (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v98) = arr2 (m ((c.tc : Thread nD τ).loc main_arg0)) (m ((c.tc : Thread nD τ).loc main_arg1)) (m ((c.tc : Thread nD τ).loc main_arg6)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans ((fin_main_v87 m c).symm.trans (res_eq0 m c)),
    (h c).2.1.trans ((fin_main_v90 m c).symm.trans (res_eq1 m c)), (h c).2.2.1.trans ((fin_main_v98 m c).symm.trans (res_eq2 m c)),
    (h c).2.2.2⟩) (Value.run m ρ)

end Cert.ReferenceIdeal.Val

end
-- ==== Proof.Blocks.lean ====
/-
  The windows' blocks at coordinates, in the arguments.
-/
module

public import proofs.«01_k».proof.Proof.Gen.KernelIdeal.Frame
public import proofs.«01_k».proof.Proof.Spec
public import Idealize.ShloMosaic.Lib.Claim
public import Idealize.ShloMosaic.Lib.Pipeline.Frame
public import Idealize.ShloMosaic.Lib.Pipeline.ValueKit
public import Idealize.ShloMosaic.Lib.Pointwise
public import Idealize.ShloMosaic.Lib.Tactic
public import Idealize.ShloMosaic.PureOps.Ideal
public import Idealize.ShloMosaic.PureOps.Ideal.Laws

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Cert.Attn

/-- The key-value head of a grid point. -/
def headOf (t : Fin cfg0.N) : Fin 8 := ⟨t.val / 20, by have h : t.val < 160 := t.isLt; omega⟩
/-- The batch of a grid point. -/
def batchOf (t : Fin cfg0.N) : Fin 4 := ⟨t.val % 20 / 5, by omega⟩
/-- The query head of a grid point. -/
def qheadOf (t : Fin cfg0.N) : Fin 40 := ⟨5 * (t.val / 20) + t.val % 5, by have h : t.val < 160 := t.isLt; omega⟩

/-- A grid point's query head belongs to the point's key-value head. -/
theorem kv_qhead (t : Fin cfg0.N) : kv (qheadOf t) = headOf t := by
  apply Fin.ext; show (5 * (t.val / 20) + t.val % 5) / 5 = t.val / 20; omega

/-- The window's index at a grid point, by window. -/
theorem index0 : ∀ t : Fin cfg0.N, win0_0.index t = ![t.val % 20 / 5, 5 * (t.val / 20) + t.val % 5, 0, 0] := (by decide +kernel : ∀ t : Fin grid0.N, _)
/-- Window 1's index at a grid point. -/
theorem index1 : ∀ t : Fin cfg0.N, win0_1.index t = ![t.val % 20 / 5, 5 * (t.val / 20) + t.val % 5, 0, 0] := (by decide +kernel : ∀ t : Fin grid0.N, _)
/-- Window 2's index at a grid point. -/
theorem index2 : ∀ t : Fin cfg0.N, win0_2.index t = ![t.val / 20, 0, 0] := (by decide +kernel : ∀ t : Fin grid0.N, _)
/-- Window 3's index at a grid point. -/
theorem index3 : ∀ t : Fin cfg0.N, win0_3.index t = ![t.val / 20, 0, 0] := (by decide +kernel : ∀ t : Fin grid0.N, _)
/-- Window 4's index at a grid point. -/
theorem index4 : ∀ t : Fin cfg0.N, win0_4.index t = ![t.val / 20, 0, 0] := (by decide +kernel : ∀ t : Fin grid0.N, _)
/-- Window 5's index at a grid point. -/
theorem index5 : ∀ t : Fin cfg0.N, win0_5.index t = ![t.val / 20, 0, 0] := (by decide +kernel : ∀ t : Fin grid0.N, _)
/-- Window 6's index at a grid point. -/
theorem index6 : ∀ t : Fin cfg0.N, win0_6.index t = ![t.val % 20 / 5, t.val / 20, 0, 0] := (by decide +kernel : ∀ t : Fin grid0.N, _)
/-- Window 7's index at a grid point. -/
theorem index7 : ∀ t : Fin cfg0.N, win0_7.index t = ![t.val % 20 / 5, t.val / 20, 0, 0] := (by decide +kernel : ∀ t : Fin grid0.N, _)
/-- Window 8's index at a grid point. -/
theorem index8 : ∀ t : Fin cfg0.N, win0_8.index t = ![t.val % 20 / 5, t.val / 20, 0, 0] := (by decide +kernel : ∀ t : Fin grid0.N, _)
/-- Window 9's index at a grid point. -/
theorem index9 : ∀ t : Fin cfg0.N, win0_9.index t = ![t.val % 20 / 5, t.val / 20, 0, 0] := (by decide +kernel : ∀ t : Fin grid0.N, _)
/-- Window 10's index at a grid point. -/
theorem index10 : ∀ t : Fin cfg0.N, win0_10.index t = ![t.val % 20 / 5, 0, 5 * (t.val / 20) + t.val % 5] := (by decide +kernel : ∀ t : Fin grid0.N, _)
/-- Window 11's index at a grid point. -/
theorem index11 : ∀ t : Fin cfg0.N, win0_11.index t = ![t.val % 20 / 5, 5 * (t.val / 20) + t.val % 5, 0, 0] := (by decide +kernel : ∀ t : Fin grid0.N, _)
/-- Window 12's index at a grid point. -/
theorem index12 : ∀ t : Fin cfg0.N, win0_12.index t = ![t.val % 20 / 5, 5 * (t.val / 20) + t.val % 5, 0, 0] := (by decide +kernel : ∀ t : Fin grid0.N, _)

/-- Window 0's block at coordinates. -/
theorem blk0_at (c : Dev nD) (t : Fin cfg0.N) (j : Fin 512) (d : Fin 128) : iblk m c 0 t (ix4 (0 : Fin 1) (0 : Fin 1) j d) = V m c main_v0 (ix4 (batchOf t) (qheadOf t) j d) := by
  blk_simp [iblk]
  congr 1
  funext a; apply Fin.ext
  fin_cases a <;> (blk_simp [index0] <;> simp [ix3, ix4, batchOf, qheadOf])

/-- Window 1's block at coordinates. -/
theorem blk1_at (c : Dev nD) (t : Fin cfg0.N) (j : Fin 512) : iblk m c 1 t (ix4 (0 : Fin 1) (0 : Fin 1) (0 : Fin 1) j) = V m c main_v2 (ix4 (batchOf t) (qheadOf t) (0 : Fin 1) j) := by
  blk_simp [iblk]
  congr 1
  funext a; apply Fin.ext
  fin_cases a <;> (blk_simp [index1] <;> simp [ix3, ix4, batchOf, qheadOf])

/-- Window 2's block at coordinates. -/
theorem blk2_at (c : Dev nD) (t : Fin cfg0.N) (p : Fin 32768) (d : Fin 128) : iblk m c 2 t (ix3 (0 : Fin 1) p d) = V m c main_v3 (ix3 (headOf t) p d) := by
  blk_simp [iblk]
  congr 1
  funext a; apply Fin.ext
  fin_cases a <;> (blk_simp [index2] <;> simp [ix3, ix4, headOf])

/-- Window 3's block at coordinates. -/
theorem blk3_at (c : Dev nD) (t : Fin cfg0.N) (p : Fin 32768) (d : Fin 128) : iblk m c 3 t (ix3 (0 : Fin 1) p d) = V m c main_v4 (ix3 (headOf t) p d) := by
  blk_simp [iblk]
  congr 1
  funext a; apply Fin.ext
  fin_cases a <;> (blk_simp [index3] <;> simp [ix3, ix4, headOf])

/-- Window 4's block at coordinates. -/
theorem blk4_at (c : Dev nD) (t : Fin cfg0.N) (p : Fin 256) (d : Fin 128) : iblk m c 4 t (ix3 (0 : Fin 1) p d) = V m c main_v5 (ix3 (headOf t) p d) := by
  blk_simp [iblk]
  congr 1
  funext a; apply Fin.ext
  fin_cases a <;> (blk_simp [index4] <;> simp [ix3, ix4, headOf])

/-- Window 5's block at coordinates. -/
theorem blk5_at (c : Dev nD) (t : Fin cfg0.N) (p : Fin 256) (d : Fin 128) : iblk m c 5 t (ix3 (0 : Fin 1) p d) = V m c main_v6 (ix3 (headOf t) p d) := by
  blk_simp [iblk]
  congr 1
  funext a; apply Fin.ext
  fin_cases a <;> (blk_simp [index5] <;> simp [ix3, ix4, headOf])

/-- Window 6's block at coordinates. -/
theorem blk6_at (c : Dev nD) (t : Fin cfg0.N) (s : Fin 512) (d : Fin 128) : iblk m c 6 t (ix4 (0 : Fin 1) (0 : Fin 1) s d) = V m c main_v7 (ix4 (batchOf t) (headOf t) s d) := by
  blk_simp [iblk]
  congr 1
  funext a; apply Fin.ext
  fin_cases a <;> (blk_simp [index6] <;> simp [ix3, ix4, batchOf, headOf])

/-- Window 7's block at coordinates. -/
theorem blk7_at (c : Dev nD) (t : Fin cfg0.N) (s : Fin 512) (d : Fin 128) : iblk m c 7 t (ix4 (0 : Fin 1) (0 : Fin 1) s d) = V m c main_v8 (ix4 (batchOf t) (headOf t) s d) := by
  blk_simp [iblk]
  congr 1
  funext a; apply Fin.ext
  fin_cases a <;> (blk_simp [index7] <;> simp [ix3, ix4, batchOf, headOf])

/-- Window 8's block at coordinates. -/
theorem blk8_at (c : Dev nD) (t : Fin cfg0.N) (s : Fin 512) : iblk m c 8 t (ix4 (0 : Fin 1) (0 : Fin 1) s (0 : Fin 1)) = V m c main_v10 (ix4 (batchOf t) (headOf t) s (0 : Fin 1)) := by
  blk_simp [iblk]
  congr 1
  funext a; apply Fin.ext
  fin_cases a <;> (blk_simp [index8] <;> simp [ix3, ix4, batchOf, headOf])

/-- Window 9's block at coordinates. -/
theorem blk9_at (c : Dev nD) (t : Fin cfg0.N) (s : Fin 512) : iblk m c 9 t (ix4 (0 : Fin 1) (0 : Fin 1) s (0 : Fin 1)) = V m c main_v12 (ix4 (batchOf t) (headOf t) s (0 : Fin 1)) := by
  blk_simp [iblk]
  congr 1
  funext a; apply Fin.ext
  fin_cases a <;> (blk_simp [index9] <;> simp [ix3, ix4, batchOf, headOf])

/-- What the host leaves in `main_v0`, at coordinates. -/
theorem V_main_v0_at (c : Dev nD) (b : Fin 4) (n : Fin 40) (j : Fin 512) (d : Fin 128) : V m c main_v0 (ix4 b n j d) = m ((c : Thread nD τ).loc main_arg0) (ix4 b j n d) := by
  unfold V V0
  simp only [List.flatten_cons, List.flatten_nil, List.append_nil]
  after_results_simp
  pointwise []

/-- What the host leaves in `main_v2`, at coordinates. -/
theorem V_main_v2_at (c : Dev nD) (b : Fin 4) (n : Fin 40) (j : Fin 512) : V m c main_v2 (ix4 b n (0 : Fin 1) j) = m ((c : Thread nD τ).loc main_arg1) (ix3 b j n) := by
  unfold V V0
  simp only [List.flatten_cons, List.flatten_nil, List.append_nil]
  after_results_simp
  pointwise []

/-- What the host leaves in `main_v3`, at coordinates. -/
theorem V_main_v3_at (c : Dev nD) (h : Fin 8) (p : Fin 32768) (d : Fin 128) : V m c main_v3 (ix3 h p d) = m ((c : Thread nD τ).loc main_arg2) (ix3 p h d) := by
  unfold V V0
  simp only [List.flatten_cons, List.flatten_nil, List.append_nil]
  after_results_simp
  pointwise []

/-- What the host leaves in `main_v4`, at coordinates. -/
theorem V_main_v4_at (c : Dev nD) (h : Fin 8) (p : Fin 32768) (d : Fin 128) : V m c main_v4 (ix3 h p d) = m ((c : Thread nD τ).loc main_arg3) (ix3 p h d) := by
  unfold V V0
  simp only [List.flatten_cons, List.flatten_nil, List.append_nil]
  after_results_simp
  pointwise []

/-- What the host leaves in `main_v5`, at coordinates. -/
theorem V_main_v5_at (c : Dev nD) (h : Fin 8) (p : Fin 256) (d : Fin 128) : V m c main_v5 (ix3 h p d) = m ((c : Thread nD τ).loc main_arg4) (ix3 p h d) := by
  unfold V V0
  simp only [List.flatten_cons, List.flatten_nil, List.append_nil]
  after_results_simp
  pointwise []

/-- What the host leaves in `main_v6`, at coordinates. -/
theorem V_main_v6_at (c : Dev nD) (h : Fin 8) (p : Fin 256) (d : Fin 128) : V m c main_v6 (ix3 h p d) = m ((c : Thread nD τ).loc main_arg5) (ix3 p h d) := by
  unfold V V0
  simp only [List.flatten_cons, List.flatten_nil, List.append_nil]
  after_results_simp
  pointwise []

/-- What the host leaves in `main_v7`, at coordinates. -/
theorem V_main_v7_at (c : Dev nD) (b : Fin 4) (h : Fin 8) (s : Fin 512) (d : Fin 128) : V m c main_v7 (ix4 b h s d) = m ((c : Thread nD τ).loc main_arg6) (ix4 b s h d) := by
  unfold V V0
  simp only [List.flatten_cons, List.flatten_nil, List.append_nil]
  after_results_simp
  pointwise []

/-- What the host leaves in `main_v8`, at coordinates. -/
theorem V_main_v8_at (c : Dev nD) (b : Fin 4) (h : Fin 8) (s : Fin 512) (d : Fin 128) : V m c main_v8 (ix4 b h s d) = m ((c : Thread nD τ).loc main_arg7) (ix4 b s h d) := by
  unfold V V0
  simp only [List.flatten_cons, List.flatten_nil, List.append_nil]
  after_results_simp
  pointwise []

/-- What the host leaves in `main_v10`, at coordinates. -/
theorem V_main_v10_at (c : Dev nD) (b : Fin 4) (h : Fin 8) (s : Fin 512) : V m c main_v10 (ix4 b h s (0 : Fin 1)) = m ((c : Thread nD τ).loc main_arg8) (ix3 b s h) := by
  unfold V V0
  simp only [List.flatten_cons, List.flatten_nil, List.append_nil]
  after_results_simp
  pointwise []

/-- What the host leaves in `main_v12`, at coordinates. -/
theorem V_main_v12_at (c : Dev nD) (b : Fin 4) (h : Fin 8) (s : Fin 512) : V m c main_v12 (ix4 b h s (0 : Fin 1)) = m ((c : Thread nD τ).loc main_arg9) (ix3 b s h) := by
  unfold V V0
  simp only [List.flatten_cons, List.flatten_nil, List.append_nil]
  after_results_simp
  pointwise []

end Cert.KernelIdeal.Val

end
-- ==== Proof.PayA.lean ====
/-
  The payloads at an index.
-/
module

public import proofs.«01_k».proof.Proof.Gen.KernelIdeal.Skeleton
public import proofs.«01_k».proof.Proof.Body
public import proofs.«01_k».proof.Proof.Math
public import proofs.«01_k».proof.Proof.Part4
public import proofs.«01_k».proof.Proof.PayB
public import Idealize.ShloMosaic.Lib.Claim
public import Idealize.ShloMosaic.Lib.VecWindow
public import Idealize.ShloMosaic.Lib.WritesUnit
public import Idealize.ShloMosaic.Lib.Pipeline.Frame
public import Idealize.ShloMosaic.Lib.Pointwise
public import Idealize.ShloMosaic.Lib.Tactic
public import Idealize.ShloMosaic.PureOps.Ideal
public import Idealize.ShloMosaic.PureOps.Ideal.Laws

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

open Cert.Attn

/-- The factors of the scores at a column. -/
theorem pay15_at (qs : Vec Ideal S1x1x1x512 .f32) (j : Fin 512) :
    k0_pay15 qs (ix2 (0 : Fin 1) j) = qs (ix4 (0 : Fin 1) (0 : Fin 1) (0 : Fin 1) j) * c0 := by
  pointwise [k0_pay15]
/-- The scores' constant factor to base two, at a query. -/
theorem pay16_at (qs : Vec Ideal S1x1x1x512 .f32) (j : Fin 512) :
    k0_pay16 qs (ix2 (0 : Fin 1) j) = qs (ix4 (0 : Fin 1) (0 : Fin 1) (0 : Fin 1) j) * c0 * (L2 : EReal) := by
  pointwise [k0_pay16, k0_pay15]
  rw [log2e_val]
/-- The query at a column and a lane. -/
theorem pay14_at (q : Vec Ideal S1x1x512x128 .fp8e4m3) (j : Fin 512) (d : Fin 128) :
    k0_pay14 q (ix2 j d) = q (ix4 (0 : Fin 1) (0 : Fin 1) j d) := by
  pointwise [k0_pay14, k0_pay13]

/-- A key's position in the prompt, from any number. -/
def pos (n : ℕ) : Fin 32768 := ⟨n % 32768, Nat.mod_lt _ (by decide)⟩

/-- The scaled score of a prompt key at a column. -/
def S2 (v14 : FVec Ideal S1x512 .f32) (K : Vec Ideal S32768x128 .bf16) (Q : Vec Ideal S512x128 .bf16) (j : Fin 512) (p : Fin 32768) :
    EReal := (∑ d : Fin 128, K (ix2 p d) * Q (ix2 j d)) * v14 (ix2 (0 : Fin 1) j)

/-- One block's step of the sum buffer. -/
theorem pay22_at (v14 v28 : FVec Ideal S1x512 .f32) (K : Vec Ideal S32768x128 .bf16) (k : ℕ) (Q : Vec Ideal S512x128 .bf16)
    (l : Vec Ideal S8x512 .f32) (r : Fin 8) (j : Fin 512) :
    k0_pay22 v14 v28 (rowBlk K k) Q l (ix2 r j)
      = l (ix2 r j) + ∑ x : Fin 128, Ideal.exp2 (S2 v14 K Q j (pos (1024 * k + (x.val * 8 + r.val))) - v28 (ix2 (0 : Fin 1) j)) := by
  pointwise [k0_pay22, k0_pay21]
  rfl

/-- One block's step of the weighted values. -/
theorem pay23_at (v14 v28 : FVec Ideal S1x512 .f32) (K : Vec Ideal S32768x128 .bf16) (V : Vec Ideal S128x32768 .bf16) (k : ℕ)
    (Q : Vec Ideal S512x128 .bf16) (a : Vec Ideal S128x512 .f32) (d : Fin 128) (j : Fin 512) :
    k0_pay23 v14 v28 (rowBlk K k) Q a (colBlk V k) (ix2 d j)
      = a (ix2 d j) + ∑ x : Fin 1024, V (ix2 d (pos (1024 * k + x.val)))
          * Ideal.exp2 (S2 v14 K Q j (pos (1024 * k + x.val)) - v28 (ix2 (0 : Fin 1) j)) := by
  pointwise [k0_pay23, k0_pay21]
  rfl

/-- One block's step of the running maximum. -/
theorem pay26_at (v14 : FVec Ideal S1x512 .f32) (m : FVec Ideal S8x512 .f32) (K : Vec Ideal S32768x128 .bf16) (k : ℕ)
    (Q : Vec Ideal S512x128 .bf16) (r : Fin 8) (j : Fin 512) :
    k0_pay26 v14 m (rowBlk K k) Q (ix2 r j)
      = max (m (ix2 r j)) (Finset.univ.sup fun x : Fin 128 => S2 v14 K Q j (pos (1024 * k + (x.val * 8 + r.val)))) := by
  pointwise [k0_pay26]
  rw [negInf]
  rfl

/-- A block's greatest score. -/
theorem pay17_at (qs : Vec Ideal S1x1x1x512 .f32) (K : Vec Ideal S32768x128 .bf16) (k : ℕ) (Q : Vec Ideal S512x128 .bf16) (j : Fin 512) :
    k0_pay17 qs (rowBlk K k) Q (ix2 (0 : Fin 1) j)
      = Finset.univ.sup fun r : Fin 8 => Finset.univ.sup fun x : Fin 128 =>
          S2 (k0_pay16 qs) K Q j (pos (1024 * k + (x.val * 8 + r.val))) := by
  have h : ∀ p, S2 (k0_pay16 qs) K Q j p
      = (∑ d : Fin 128, K (ix2 p d) * Q (ix2 j d)) * (qs (ix4 (0 : Fin 1) (0 : Fin 1) (0 : Fin 1) j) * c0 * (L2 : EReal)) := fun p => by
    rw [S2, pay16_at]
  simp only [h]
  pointwise [k0_pay17, k0_pay16, k0_pay15]
  rw [negInf, log2e_val]
  simp only [bot_le, max_eq_right, fold_max]
  refine Finset.sup_congr rfl fun r _ => Finset.sup_congr rfl fun x _ => ?_
  rfl

/-- The greatest over the eight rows. -/
theorem pay27_at (m : FVec Ideal S8x512 .f32) (j : Fin 512) :
    k0_pay27 m (ix2 (0 : Fin 1) j) = Finset.univ.sup fun r : Fin 8 => m (ix2 r j) := by
  pointwise [k0_pay27]
  rw [negInf]
  rfl

/-- The stored shift is the shift, in the first attempt. -/
theorem pay18_eq (m : FVec Ideal S1x512 .f32) (j : Fin 512) : k0_pay18 m (ix2 (0 : Fin 1) j) = m (ix2 (0 : Fin 1) j) := by
  pointwise [k0_pay18]
/-- The stored shift is the shift, in the second attempt. -/
theorem pay28_eq (m : FVec Ideal S8x512 .f32) (j : Fin 512) : k0_pay28 m (ix2 (0 : Fin 1) j) = k0_pay27 m (ix2 (0 : Fin 1) j) := by
  pointwise [k0_pay28]
/-- The weighted values start at zero. -/
theorem pay19_at (d : Fin 128) (j : Fin 512) : k0_pay19 (F := Ideal) (ix2 d j) = (0 : EReal) := by
  pointwise [k0_pay19]
/-- The sums of weights start at zero. -/
theorem pay20_at (r : Fin 8) (j : Fin 512) : k0_pay20 (F := Ideal) (ix2 r j) = (0 : EReal) := by
  pointwise [k0_pay20]
/-- The maximum starts at negative infinity. -/
theorem pay25_at (r : Fin 8) (j : Fin 512) : k0_pay25 (F := Ideal) (ix2 r j) = (⊥ : EReal) := by
  pointwise [k0_pay25]
  exact negInf
/-- The second attempt's sums of weights are the first's, of its own shift. -/
theorem pay32_eq (v14 : FVec Ideal S1x512 .f32) (v145 : FVec Ideal S8x512 .f32) (a : Vec Ideal S1024x128 .bf16) (b : Vec Ideal S512x128 .bf16)
    (l : Vec Ideal S8x512 .f32) : k0_pay32 v14 v145 a b l = k0_pay22 v14 (k0_pay27 v145) a b l := rfl
/-- The second attempt's weighted values are the first's, of its own shift. -/
theorem pay33_eq (v14 : FVec Ideal S1x512 .f32) (v145 : FVec Ideal S8x512 .f32) (a : Vec Ideal S1024x128 .bf16) (b : Vec Ideal S512x128 .bf16)
    (l : Vec Ideal S128x512 .f32) (v : Vec Ideal S128x1024 .bf16) : k0_pay33 v14 v145 a b l v = k0_pay23 v14 (k0_pay27 v145) a b l v := rfl
/-- Both attempts start the weighted values alike. -/
theorem pay29_eq : k0_pay29 (F := Ideal) = k0_pay19 (F := Ideal) := rfl
/-- Both attempts start the sums of weights alike. -/
theorem pay30_eq : k0_pay30 (F := Ideal) = k0_pay20 (F := Ideal) := rfl
/-- The sum of the eight rows. -/
theorem pay34_at (l : Vec Ideal S8x512 .f32) (j : Fin 512) : k0_pay34 l (ix2 (0 : Fin 1) j) = ∑ r : Fin 8, l (ix2 r j) := by
  pointwise [k0_pay34]
/-- The prompt's log-sum-exp at a column. -/
theorem pay35_at (l : Vec Ideal S8x512 .f32) (m : Vec Ideal S1x512 .f32) (j : Fin 512) :
    k0_pay35 l m (ix2 (0 : Fin 1) j) = m (ix2 (0 : Fin 1) j) * (Real.log 2 : EReal) + Ideal.log (∑ r : Fin 8, l (ix2 r j)) := by
  pointwise [k0_pay35, k0_pay34]
  rw [ln2_val]

end Cert.KernelIdeal.Val

end
-- ==== Proof.PayD.lean ====
/-
  The payloads at an index.
-/
module

public import proofs.«01_k».proof.Proof.Gen.KernelIdeal.Skeleton
public import proofs.«01_k».proof.Proof.Body
public import proofs.«01_k».proof.Proof.Math
public import proofs.«01_k».proof.Proof.Part4
public import proofs.«01_k».proof.Proof.PayA
public import proofs.«01_k».proof.Proof.PayB
public import proofs.«01_k».proof.Proof.PayC
public import proofs.«01_k».proof.Proof.Sums
public import Idealize.ShloMosaic.Lib.Claim
public import Idealize.ShloMosaic.Lib.VecWindow
public import Idealize.ShloMosaic.Lib.WritesUnit
public import Idealize.ShloMosaic.Lib.Pipeline.Frame
public import Idealize.ShloMosaic.Lib.Pointwise
public import Idealize.ShloMosaic.Lib.Tactic
public import Idealize.ShloMosaic.PureOps.Ideal
public import Idealize.ShloMosaic.PureOps.Ideal.Laws

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

open Cert.Attn

/-- The sums' terms, by a key's number. -/
def E (v14 v28 : FVec Ideal S1x512 .f32) (K : Vec Ideal S32768x128 .bf16) (Q : Vec Ideal S512x128 .bf16) (j : Fin 512) (n : ℕ) : EReal :=
  Ideal.exp2 (S2 v14 K Q j (pos n) - v28 (ix2 (0 : Fin 1) j))

/-- A key's number names it. -/
theorem pos_val (p : Fin 32768) : pos p.val = p := Fin.ext (Nat.mod_eq_of_lt p.isLt)

/-- The sum buffer after `k` blocks. -/
theorem l2_at (v14 v28 : FVec Ideal S1x512 .f32) (K : Vec Ideal S32768x128 .bf16) (Q : Vec Ideal S512x128 .bf16) (r : Fin 8) (j : Fin 512)
    (k : ℕ) : l2 v14 v28 K Q (k0_pay20 (F := Ideal)) k (ix2 r j)
      = ∑ i ∈ Finset.range k, ∑ x : Fin 128, E v14 v28 K Q j (1024 * i + (x.val * 8 + r.val)) := by
  induction k with
  | zero => exact pay20_at r j
  | succ k ih =>
    rw [l2, pay22_at, ih, Finset.sum_range_succ]
    rfl

/-- The weighted values after `k` blocks. -/
theorem a2_at (v14 v28 : FVec Ideal S1x512 .f32) (K : Vec Ideal S32768x128 .bf16) (V : Vec Ideal S128x32768 .bf16)
    (Q : Vec Ideal S512x128 .bf16) (d : Fin 128) (j : Fin 512) (k : ℕ) :
    a2 v14 v28 K V Q (k0_pay19 (F := Ideal)) k (ix2 d j)
      = ∑ i ∈ Finset.range k, ∑ x : Fin 1024, V (ix2 d (pos (1024 * i + x.val))) * E v14 v28 K Q j (1024 * i + x.val) := by
  induction k with
  | zero => exact pay19_at d j
  | succ k ih =>
    rw [a2, pay23_at, ih, Finset.sum_range_succ]
    rfl

/-- The running maximum after `k` blocks. -/
theorem m3_at (v14 : FVec Ideal S1x512 .f32) (K : Vec Ideal S32768x128 .bf16) (Q : Vec Ideal S512x128 .bf16) (r : Fin 8) (j : Fin 512)
    (k : ℕ) : m3 v14 K Q (k0_pay25 (F := Ideal)) k (ix2 r j)
      = (Finset.range k).sup fun i => Finset.univ.sup fun x : Fin 128 => S2 v14 K Q j (pos (1024 * i + (x.val * 8 + r.val))) := by
  induction k with
  | zero => exact pay25_at r j
  | succ k ih =>
    rw [m3, pay26_at, ih, Finset.range_add_one, Finset.sup_insert]
    exact max_comm _ _

/-- The second pass is the first at another shift. -/
theorem l4_eq (v14 : FVec Ideal S1x512 .f32) (v145 : FVec Ideal S8x512 .f32) (K : Vec Ideal S32768x128 .bf16) (Q : Vec Ideal S512x128 .bf16)
    (k : ℕ) : l4 v14 v145 K Q (k0_pay30 (F := Ideal)) k = l2 v14 (k0_pay27 v145) K Q (k0_pay20 (F := Ideal)) k := by
  induction k with
  | zero => exact pay30_eq
  | succ k ih => rw [l4, l2, ih, pay32_eq]
/-- The second pass's weighted values are the first's at another shift. -/
theorem a4_eq (v14 : FVec Ideal S1x512 .f32) (v145 : FVec Ideal S8x512 .f32) (K : Vec Ideal S32768x128 .bf16) (V : Vec Ideal S128x32768 .bf16)
    (Q : Vec Ideal S512x128 .bf16) (k : ℕ) :
    a4 v14 v145 K V Q (k0_pay29 (F := Ideal)) k = a2 v14 (k0_pay27 v145) K V Q (k0_pay19 (F := Ideal)) k := by
  induction k with
  | zero => exact pay29_eq
  | succ k ih => rw [a4, a2, ih, pay33_eq]

/-- The sum over the eight rows of the whole sum buffer: the sum over all keys. -/
theorem l2_sum (v14 v28 : FVec Ideal S1x512 .f32) (K : Vec Ideal S32768x128 .bf16) (Q : Vec Ideal S512x128 .bf16) (j : Fin 512) :
    ∑ r : Fin 8, l2 v14 v28 K Q (k0_pay20 (F := Ideal)) 32 (ix2 r j)
      = ∑ p : Fin 32768, Ideal.exp2 (S2 v14 K Q j p - v28 (ix2 (0 : Fin 1) j)) := by
  simp only [l2_at]
  rw [sum_keys8]
  refine Finset.sum_congr rfl fun p _ => ?_
  rw [E, pos_val]

/-- The whole weighted values: the sum over all keys. -/
theorem a2_sum (v14 v28 : FVec Ideal S1x512 .f32) (K : Vec Ideal S32768x128 .bf16) (V : Vec Ideal S128x32768 .bf16)
    (Q : Vec Ideal S512x128 .bf16) (d : Fin 128) (j : Fin 512) :
    a2 v14 v28 K V Q (k0_pay19 (F := Ideal)) 32 (ix2 d j)
      = ∑ p : Fin 32768, V (ix2 d p) * Ideal.exp2 (S2 v14 K Q j p - v28 (ix2 (0 : Fin 1) j)) := by
  rw [a2_at, sum_keys fun n => V (ix2 d (pos n)) * E v14 v28 K Q j n]
  refine Finset.sum_congr rfl fun p _ => ?_
  rw [E, pos_val]

/-- The greatest over the eight rows of the whole running maximum: the greatest of all. -/
theorem m3_sup (v14 : FVec Ideal S1x512 .f32) (K : Vec Ideal S32768x128 .bf16) (Q : Vec Ideal S512x128 .bf16) (j : Fin 512) :
    k0_pay27 (m3 v14 K Q (k0_pay25 (F := Ideal)) 32) (ix2 (0 : Fin 1) j) = mx (S2 v14 K Q j) := by
  rw [pay27_at]
  simp only [m3_at]
  rw [sup_keys8 fun n => S2 v14 K Q j (pos n)]
  simp only [pos_val]
  rfl

/-- What the prompt pass ends with at a column: a shift that is one of the scores, and is the greatest or keeps the sum finite; the
    sum; the weighted values. -/
theorem pass_col (q : Vec Ideal S1x1x512x128 .fp8e4m3) (qs : Vec Ideal S1x1x1x512 .f32) (K : Vec Ideal S32768x128 .bf16)
    (V : Vec Ideal S128x32768 .bf16) (m : Vec Ideal S1x512 .f32) (l : Vec Ideal S8x512 .f32) (a : Vec Ideal S128x512 .f32)
    (h : Pass q qs K V m l a) (j : Fin 512) :
    (∃ p, m (ix2 (0 : Fin 1) j) = S2 (k0_pay16 qs) K (k0_pay14 q) j p)
      ∧ (m (ix2 (0 : Fin 1) j) = mx (S2 (k0_pay16 qs) K (k0_pay14 q) j)
          ∨ ∑ p : Fin 32768, Ideal.exp2 (S2 (k0_pay16 qs) K (k0_pay14 q) j p - m (ix2 (0 : Fin 1) j)) ≠ ⊤)
      ∧ ∑ r : Fin 8, l (ix2 r j) = ∑ p : Fin 32768, Ideal.exp2 (S2 (k0_pay16 qs) K (k0_pay14 q) j p - m (ix2 (0 : Fin 1) j))
      ∧ ∀ d : Fin 128, a (ix2 d j)
          = ∑ p : Fin 32768, V (ix2 d p) * Ideal.exp2 (S2 (k0_pay16 qs) K (k0_pay14 q) j p - m (ix2 (0 : Fin 1) j)) := by
  rcases h with ⟨hm, hl, ha, ht⟩ | ⟨hm, hl, ha⟩
  · have hf := test_finite l a ht j
    have el : ∑ r : Fin 8, l (ix2 r j) = ∑ p : Fin 32768, Ideal.exp2 (S2 (k0_pay16 qs) K (k0_pay14 q) j p - m (ix2 (0 : Fin 1) j)) := by
      rw [hl, l2_sum, hm, pay18_eq]
    refine ⟨?_, Or.inr (el ▸ hf), el, fun d => ?_⟩
    · rw [hm, pay18_eq, pay17_at]
      obtain ⟨r, x, hx⟩ := exists_sup2 (by decide : 0 < 8) (by decide : 0 < 128)
        fun (r : Fin 8) (x : Fin 128) => S2 (k0_pay16 qs) K (k0_pay14 q) j (pos (1024 * 0 + (x.val * 8 + r.val)))
      exact ⟨_, hx⟩
    · rw [ha, a2_sum, hm, pay18_eq]
  · have em : m (ix2 (0 : Fin 1) j) = mx (S2 (k0_pay16 qs) K (k0_pay14 q) j) := by
      rw [hm, pay28_eq, m3_sup]
    refine ⟨?_, Or.inl em, ?_, fun d => ?_⟩
    · rw [em]; exact exists_mx (by decide) _
    · rw [hl, l4_eq, l2_sum, hm, pay28_eq]
    · rw [ha, a4_eq, a2_sum, hm, pay28_eq]

/-- The prompt's score of a key at a column. -/
def SP (q : Vec Ideal S1x1x512x128 .fp8e4m3) (qs : Vec Ideal S1x1x1x512 .f32) (K : Vec Ideal S32768x128 .bf16) (j : Fin 512)
    (p : Fin 32768) : EReal :=
  (∑ d : Fin 128, K (ix2 p d) * q (ix4 (0 : Fin 1) (0 : Fin 1) j d)) * (qs (ix4 (0 : Fin 1) (0 : Fin 1) (0 : Fin 1) j) * c0)

/-- The kernel's scores are these in base two. -/
theorem S2_eq (q : Vec Ideal S1x1x512x128 .fp8e4m3) (qs : Vec Ideal S1x1x1x512 .f32) (K : Vec Ideal S32768x128 .bf16) (j : Fin 512)
    (p : Fin 32768) : S2 (k0_pay16 qs) K (k0_pay14 q) j p = SP q qs K j p * (L2 : EReal) := by
  rw [S2, SP, pay16_at]
  simp only [pay14_at]
  exact (mul_assoc _ _ _).symm

/-- The second result's row: the prompt's log-sum-exp less a constant. -/
theorem out1_at (q : Vec Ideal S1x1x512x128 .fp8e4m3) (qs : Vec Ideal S1x1x1x512 .f32) (K : Vec Ideal S32768x128 .bf16)
    (V : Vec Ideal S128x32768 .bf16) (m : Vec Ideal S1x512 .f32) (l : Vec Ideal S8x512 .f32) (a : Vec Ideal S128x512 .f32)
    (h : Pass q qs K V m l a) (j : Fin 512) :
    out1 m l (ix4 (0 : Fin 1) (0 : Fin 1) (0 : Fin 1) j) = lse (SP q qs K j) - Ideal.ofBits .f32 0x41265AF6#32 := by
  obtain ⟨hat, hmx, el, -⟩ := pass_col q qs K V m l a h j
  have e := lse_shift (by decide) (SP q qs K j) _ (S2_eq q qs K j) _ hat hmx
  have e2 := pay35_at l m j
  unfold out1
  generalize k0_pay35 l m = y at e2
  pointwise [k0_pay43]
  rw [e2, el, e]

/-- The first result's block: the prompt's attention and the completion's, combined. -/
theorem out0_at (q : Vec Ideal S1x1x512x128 .fp8e4m3) (qs : Vec Ideal S1x1x1x512 .f32) (K : Vec Ideal S32768x128 .bf16)
    (V : Vec Ideal S128x32768 .bf16) (ck cv : Vec Ideal S1x1x512x128 .fp8e4m3) (cks cvs : Vec Ideal S1x1x512x1 .f32)
    (m : Vec Ideal S1x512 .f32) (l : Vec Ideal S8x512 .f32) (a : Vec Ideal S128x512 .f32)
    (h : Pass q qs K V m l a) (j : Fin 512) (d : Fin 128) :
    out0 q qs ck cv cks cvs m l a (ix3 (0 : Fin 1) j d)
      = mix (lse (SP q qs K j)) (lse (SS q qs ck cks j)) (att (SP q qs K j) fun p => V (ix2 d p))
          (att (SS q qs ck cks j) fun t => cv (ix4 (0 : Fin 1) (0 : Fin 1) t d) * cvs (ix4 (0 : Fin 1) (0 : Fin 1) t (0 : Fin 1))) := by
  obtain ⟨hat, hmx, el, ea⟩ := pass_col q qs K V m l a h j
  have e := lse_shift (by decide) (SP q qs K j) _ (S2_eq q qs K j) _ hat hmx
  have eo := out_shift (by decide) (SP q qs K j) _ (fun p => V (ix2 d p)) (S2_eq q qs K j) _ hat hmx
    (lse (SS q qs ck cks j)) (att (SS q qs ck cks j) fun t => cv (ix4 (0 : Fin 1) (0 : Fin 1) t d) * cvs (ix4 (0 : Fin 1) (0 : Fin 1) t (0 : Fin 1)))
    (row_out (by decide) _ _)
  have e34 := pay34_at l j
  have e35 := pay35_at l m j
  have e37 := pay37_at q qs ck cks j
  have e38 := fun t => pay38_at q qs ck cks t j
  have e39 := pay39_at q qs ck cks j
  have ed := ea d
  rw [el, e] at e35
  rw [el] at e34
  unfold out0
  generalize k0_pay34 l = y34 at e34
  generalize k0_pay35 l m = y35 at e35
  generalize k0_pay37 (k0_pay13 q) (k0_pay15 qs) ck cks = y37 at e37
  generalize k0_pay38 (k0_pay13 q) (k0_pay15 qs) ck cks = y38 at e38
  generalize k0_pay39 (k0_pay13 q) (k0_pay15 qs) ck cks = y39 at e39
  pointwise [k0_pay42, k0_pay41, k0_pay40]
  simp only [e34, e35, e37, e38, e39, ed]
  have en : (∑ t : Fin 512, cv (ix4 (0 : Fin 1) (0 : Fin 1) t d) * (wt (SS q qs ck cks j) t * cvs (ix4 (0 : Fin 1) (0 : Fin 1) t (0 : Fin 1))) : EReal)
      = ∑ t : Fin 512, (cv (ix4 (0 : Fin 1) (0 : Fin 1) t d) * cvs (ix4 (0 : Fin 1) (0 : Fin 1) t (0 : Fin 1))) * wt (SS q qs ck cks j) t :=
    Finset.sum_congr rfl fun t _ => by rw [mul_comm (wt _ _), mul_assoc]
  rw [en]
  exact eo

end Cert.KernelIdeal.Val

end
-- ==== Proof.Run.lean ====
/-
  One grid point of the kernel with values.
-/
module

public import proofs.«01_k».proof.Proof.Gen.KernelIdeal.Frame
public import proofs.«01_k».proof.Proof.Gen.KernelIdeal.Skeleton
public import proofs.«01_k».proof.Proof.Body
public import proofs.«01_k».proof.Proof.Fill
public import proofs.«01_k».proof.Proof.Part4
public import Idealize.ShloMosaic.Lib.Claim
public import Idealize.ShloMosaic.Lib.VecWindow
public import Idealize.ShloMosaic.Lib.WritesUnit
public import Idealize.ShloMosaic.Lib.Pipeline.Frame
public import Idealize.ShloMosaic.Lib.Pointwise
public import Idealize.ShloMosaic.Lib.Tactic
public import Idealize.ShloMosaic.PureOps.Ideal
public import Idealize.ShloMosaic.PureOps.Ideal.Laws

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The test is passed where its negation is not taken. -/
theorem test_bit (b : BitVec 1) (h : ¬ Scalar.cmpi .ne (Scalar.extui (Scalar.xori b 1#1) : BitVec 32) 0#32 = 1#1) : b = 1#1 := by
  revert b; decide

set_option maxHeartbeats 1000000 in
/-- The whole body, with values. -/
theorem bodyRun (c : Dev nD) (i : grid0.Coords) (arg2 : Memref sig .tc .vmem S1x1x512x128 .fp8e4m3) (harg2 : arg2.IsWhole) (arg3 : Memref sig .tc .vmem S1x1x1x512 .f32) (harg3 : arg3.IsWhole) (arg4 : Memref sig .tc .vmem S1x32768x128 .fp8e4m3) (harg4 : arg4.IsWhole) (arg5 : Memref sig .tc .vmem S1x32768x128 .fp8e4m3) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x1x512x128 .fp8e4m3) (harg8 : arg8.IsWhole) (arg9 : Memref sig .tc .vmem S1x1x512x128 .fp8e4m3) (harg9 : arg9.IsWhole) (arg10 : Memref sig .tc .vmem S1x1x512x1 .f32) (harg10 : arg10.IsWhole) (arg11 : Memref sig .tc .vmem S1x1x512x1 .f32) (harg11 : arg11.IsWhole) (arg12 : Memref sig .tc .vmem S1x512x128 .bf16) (harg12 : arg12.IsWhole) (arg13 : Memref sig .tc .vmem S1x1x1x512 .f32) (harg13 : arg13.IsWhole) (arg14 : Memref sig .tc .vmem S1x1x1x512 .f32) (harg14 : arg14.IsWhole) (arg15 : Memref sig .tc .vmem S32768x128 .bf16) (harg15 : arg15.IsWhole) (arg16 : Memref sig .tc .vmem S128x32768 .bf16) (harg16 : arg16.IsWhole) (arg17 : Memref sig .tc .vmem S512x128 .bf16) (harg17 : arg17.IsWhole) (arg18 : Memref sig .tc .vmem S128x512 .f32) (harg18 : arg18.IsWhole) (arg19 : Memref sig .tc .vmem S8x512 .f32) (harg19 : arg19.IsWhole) (arg20 : Memref sig .tc .vmem S1x512 .f32) (harg20 : arg20.IsWhole)
    (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))) (f12 : Buf (Elt Ideal) (arg12.view.loc (c : Thread nD τ))) (f13 : Buf (Elt Ideal) (arg13.view.loc (c : Thread nD τ))) (f14 : Buf (Elt Ideal) (arg14.view.loc (c : Thread nD τ))) (f15 : Buf (Elt Ideal) (arg15.view.loc (c : Thread nD τ))) (f16 : Buf (Elt Ideal) (arg16.view.loc (c : Thread nD τ))) (f17 : Buf (Elt Ideal) (arg17.view.loc (c : Thread nD τ))) (f18 : Buf (Elt Ideal) (arg18.view.loc (c : Thread nD τ))) (f19 : Buf (Elt Ideal) (arg19.view.loc (c : Thread nD τ))) (f20 : Buf (Elt Ideal) (arg20.view.loc (c : Thread nD τ)))
    (hK : ¬ k0_cond1 i = 1#1 → arg15.view.read (Elt Ideal) f15 = Kmat (arg4.view.read (Elt Ideal) f4) (arg6.view.read (Elt Ideal) f6))
    (hV : ¬ k0_cond1 i = 1#1 → arg16.view.read (Elt Ideal) f16 = Vmat (arg5.view.read (Elt Ideal) f5) (arg7.view.read (Elt Ideal) f7))
    (K : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20
        ∗ (∀ g12, ∀ g13, ∀ g14, ∀ g15, ∀ g16, ∀ g17, ∀ g18, ∀ g19, ∀ g20, (pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 g12 ∗ pt c arg13 g13 ∗ pt c arg14 g14 ∗ pt c arg15 g15 ∗ pt c arg16 g16 ∗ pt c arg17 g17 ∗ pt c arg18 g18 ∗ pt c arg19 g19 ∗ pt c arg20 g20
            ∗ ⌜∃ m l a, Pass (arg2.view.read (Elt Ideal) f2) (arg3.view.read (Elt Ideal) f3) (Kmat (arg4.view.read (Elt Ideal) f4) (arg6.view.read (Elt Ideal) f6)) (Vmat (arg5.view.read (Elt Ideal) f5) (arg7.view.read (Elt Ideal) f7)) m l a
                ∧ arg12.view.read (Elt Ideal) g12 = out0 (arg2.view.read (Elt Ideal) f2) (arg3.view.read (Elt Ideal) f3) (arg8.view.read (Elt Ideal) f8) (arg9.view.read (Elt Ideal) f9) (arg10.view.read (Elt Ideal) f10) (arg11.view.read (Elt Ideal) f11) m l a
                ∧ arg13.view.read (Elt Ideal) g13 = out1 m l⌝
            ∗ ⌜arg14.view.read (Elt Ideal) g14 = out2 (arg2.view.read (Elt Ideal) f2) (arg3.view.read (Elt Ideal) f3) (arg8.view.read (Elt Ideal) f8) (arg10.view.read (Elt Ideal) f10)⌝
            ∗ ⌜arg15.view.read (Elt Ideal) g15 = Kmat (arg4.view.read (Elt Ideal) f4) (arg6.view.read (Elt Ideal) f6)⌝
            ∗ ⌜arg16.view.read (Elt Ideal) g16 = Vmat (arg5.view.read (Elt Ideal) f5) (arg7.view.read (Elt Ideal) f7)⌝)
          -∗ K ⟨⟩))
      ⊢ wp frame (wpE (defs₀ (F := Ideal)) Variants.none c none) Set.univ
          (cc0_shared_prompt_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_shared_prompt_attention_eq_skeleton]; unfold cc0_shared_prompt_attention_skel
  rw [wp_bind]
  simp only [k0_part5_eq_skeleton, k0_part6_eq_skeleton, k0_part7_eq_skeleton]
  iintro ⟨H2, H3, H4, H5, H6, H7, H8, H9, H10, H11, H12, H13, H14, H15, H16, H17, H18, H19, H20, Hk⟩
  iapply part4Run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 f3 f4 f5 f6 f7 f8 f9 f10 f11 f12 f13 f14 f15 f16 f17 f18 f19 f20 hK hV
  isplitl [H2]; iexact H2
  isplitl [H3]; iexact H3
  isplitl [H4]; iexact H4
  isplitl [H5]; iexact H5
  isplitl [H6]; iexact H6
  isplitl [H7]; iexact H7
  isplitl [H15]; iexact H15
  isplitl [H16]; iexact H16
  isplitl [H17]; iexact H17
  isplitl [H20]; iexact H20
  iintro %v29 ⟨H2, H3, H4, H5, H6, H7, ⟨%g15, ⟨H15, %e15⟩⟩, ⟨%g16, ⟨H16, %e16⟩⟩, ⟨%g17, ⟨H17, %e17⟩⟩, H20⟩
  dsimp only
  sl_exec
  have t2 : Scf.trips k0_t2_loop.lb k0_t2_loop.ub k0_t2_loop.st = 32 := by decide +kernel
  have t3 : Scf.trips k0_t3_loop.lb k0_t3_loop.ub k0_t3_loop.st = 32 := by decide +kernel
  have z18 : arg18.view.read (Elt Ideal) (arg18.view.writes (Elt Ideal) arg18.view.junk bodyRun.sl.H18_1) = k0_pay19 (F := Ideal) := by
    delta bodyRun.sl.H18_1
    rw [View.read_writes_full]
  have z19 : arg19.view.read (Elt Ideal) (arg19.view.writes (Elt Ideal) arg19.view.junk bodyRun.sl.H19_1) = k0_pay20 (F := Ideal) := by
    delta bodyRun.sl.H19_1
    rw [View.read_writes_full]
  rw [z18, t2, e15, e16, e17] at hL4
  rw [z19, t2, e15, e17] at hL6
  split
  · rename_i hv
    sl_exec
    sl_step
    have z18 : arg18.view.read (Elt Ideal) (arg18.view.writes (Elt Ideal) arg18.view.junk bodyRun.sl.H18_1_1) = k0_pay29 (F := Ideal) := by
      delta bodyRun.sl.H18_1_1
      rw [View.read_writes_full]
    have z19 : arg19.view.read (Elt Ideal) (arg19.view.writes (Elt Ideal) arg19.view.junk bodyRun.sl.H19_1_1) = k0_pay30 (F := Ideal) := by
      delta bodyRun.sl.H19_1_1
      rw [View.read_writes_full]
    rw [z18, t3, e15, e16, e17] at hL7
    rw [z19, t3, e15, e17] at hL9
    iapply Hk
    isplitl [H2]; iexact H2
    isplitl [H3]; iexact H3
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [H14]; iexact H14
    isplitl [H15]; iexact H15
    isplitl [H16]; iexact H16
    isplitl [H17]; iexact H17
    isplitl [H18]; iexact H18
    isplitl [H19]; iexact H19
    isplitl [H20]; iexact H20
    isplitl []
    · ipureintro
      have e69 : bodyRun.sl.v69 c arg2 arg3 arg4 arg6 arg15 arg17 arg20 f2 f3 f4 f6 g15 g17 = k0_pay28 (m3 (k0_pay16 (arg3.view.read (Elt Ideal) f3)) (Kmat (arg4.view.read (Elt Ideal) f4) (arg6.view.read (Elt Ideal) f6)) (k0_pay14 (arg2.view.read (Elt Ideal) f2)) (k0_pay25 (F := Ideal)) 32) := by
        delta bodyRun.sl.v69
        rw [View.readCov_full, t3, e15, e17]
      refine ⟨_, _, _, Or.inr ⟨rfl, rfl, rfl⟩, ?_, ?_⟩
      · rw [View.read_writes_full, ← hL7, ← hL9]
        delta bodyRun.sl.r bodyRun.sl.r_1 bodyRun.sl.r_2 bodyRun.sl.r_3 bodyRun.sl.r_4 bodyRun.sl.r_5
        rw [e69]
        simp only [rd_S8x512, rd_S128x512, rd_S1x1x512x128, rd_S1x1x512x1, out0, out1]
      · rw [View.read_writes_full, ← hL9]
        delta bodyRun.sl.r_1
        rw [e69]
        simp only [rd_S8x512, rd_S128x512, rd_S1x1x512x128, rd_S1x1x512x1, out0, out1]
    isplitl []
    · ipureintro
      delta bodyRun.sl.r_6 bodyRun.sl.r_2 bodyRun.sl.r_4
      refine (wr_S1x1x1x512 arg14.view f14 _ _ _).trans ?_
      simp only [rd_S8x512, rd_S128x512, rd_S1x1x512x128, rd_S1x1x512x1, out2]
    isplitl []
    · ipureintro; exact e15
    · ipureintro; exact e16
  · rename_i hv
    sl_exec
    sl_step
    iapply Hk
    isplitl [H2]; iexact H2
    isplitl [H3]; iexact H3
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [H14]; iexact H14
    isplitl [H15]; iexact H15
    isplitl [H16]; iexact H16
    isplitl [H17]; iexact H17
    isplitl [H18]; iexact H18
    isplitl [H19]; iexact H19
    isplitl [H20]; iexact H20
    isplitl []
    · ipureintro
      have hgood : Scalar.cmpf .ogt (k0_pay24 (arg19.view.read (Elt Ideal) fL1) (arg18.view.read (Elt Ideal) fL0)) (Scalar.ofBits .f32 0x3F000000#32) = 1#1 := by
        delta bodyRun.sl.v65 bodyRun.sl.v64 bodyRun.sl.v63 bodyRun.sl.v62 at hv
        have := test_bit _ hv
        rw [View.readAt_full, View.readAt_full] at this
        exact this
      rw [hL4, hL6] at hgood
      have e69 : bodyRun.sl.v69_1 c arg2 arg3 arg4 arg6 arg20 f2 f3 f4 f6 = k0_pay18 (k0_pay17 (arg3.view.read (Elt Ideal) f3) (rowBlk (Kmat (arg4.view.read (Elt Ideal) f4) (arg6.view.read (Elt Ideal) f6)) 0) (k0_pay14 (arg2.view.read (Elt Ideal) f2))) := by
        delta bodyRun.sl.v69_1 bodyRun.sl.H20_1
        rw [View.readCov_full]
      refine ⟨_, _, _, Or.inl ⟨rfl, rfl, rfl, hgood⟩, ?_, ?_⟩
      · rw [View.read_writes_full, ← hL4, ← hL6]
        delta bodyRun.sl.r_7 bodyRun.sl.r_8 bodyRun.sl.r_9 bodyRun.sl.r_10 bodyRun.sl.r_11 bodyRun.sl.r_12
        rw [e69]
        simp only [rd_S8x512, rd_S128x512, rd_S1x1x512x128, rd_S1x1x512x1, out0, out1]
      · rw [View.read_writes_full, ← hL6]
        delta bodyRun.sl.r_8
        rw [e69]
        simp only [rd_S8x512, rd_S128x512, rd_S1x1x512x128, rd_S1x1x512x1, out0, out1]
    isplitl []
    · ipureintro
      delta bodyRun.sl.r_13 bodyRun.sl.r_9 bodyRun.sl.r_11
      refine (wr_S1x1x1x512 arg14.view f14 _ _ _).trans ?_
      simp only [rd_S8x512, rd_S128x512, rd_S1x1x512x128, rd_S1x1x512x1, out2]
    isplitl []
    · ipureintro; exact e15
    · ipureintro; exact e16

end Cert.KernelIdeal.Val

end
-- ==== Proof.Launch.lean ====
/-
  The launch with values: the data of the pipeline, the body at a grid point, the run.
-/
module

public import proofs.«01_k».proof.Proof.Gen.KernelIdeal.Frame
public import proofs.«01_k».proof.Proof.Blocks
public import proofs.«01_k».proof.Proof.PayD
public import proofs.«01_k».proof.Proof.Run
public import proofs.«01_k».proof.Proof.KernelIdealFrame
public import Idealize.ShloMosaic.Lib.Claim
public import Idealize.ShloMosaic.Lib.Pipeline.Frame
public import Idealize.ShloMosaic.Lib.Pipeline.ValueKit
public import Idealize.ShloMosaic.Lib.Pointwise
public import Idealize.ShloMosaic.Lib.Tactic
public import Idealize.ShloMosaic.PureOps.Ideal
public import Idealize.ShloMosaic.PureOps.Ideal.Laws

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Cert.Attn

/-- The prompt's dequantised keys and values of a grid point's head. -/
def Kpt (c : Dev nD) (t : Fin cfg0.N) : Vec Ideal S32768x128 .bf16 := Kmat (iblk m c 2 t) (iblk m c 4 t)
/-- The prompt's dequantised values of a grid point's head, by lane and position. -/
def Vpt (c : Dev nD) (t : Fin cfg0.N) : Vec Ideal S128x32768 .bf16 := Vmat (iblk m c 3 t) (iblk m c 5 t)

section
variable (q : Vec Ideal S1x1x512x128 .fp8e4m3) (qs : Vec Ideal S1x1x1x512 .f32) (K : Vec Ideal S32768x128 .bf16) (W : Vec Ideal S128x32768 .bf16)
  (ck cv : Vec Ideal S1x1x512x128 .fp8e4m3) (cks cvs : Vec Ideal S1x1x512x1 .f32)
/-- The first result's block, from a point's blocks. -/
def P0 : Vec Ideal S1x512x128 .bf16 := fun y =>
  mix (lse (SP q qs K (y 1))) (lse (SS q qs ck cks (y 1))) (att (SP q qs K (y 1)) fun p => W (ix2 (y 2) p))
    (att (SS q qs ck cks (y 1)) fun s => cv (ix4 (0 : Fin 1) (0 : Fin 1) s (y 2)) * cvs (ix4 (0 : Fin 1) (0 : Fin 1) s (0 : Fin 1)))
/-- The second result's block. -/
def P1 : Vec Ideal S1x1x1x512 .f32 := fun y => lse (SP q qs K (y 3)) - Ideal.ofBits .f32 0x41265AF6#32
/-- The third result's block. -/
def P2 : Vec Ideal S1x1x1x512 .f32 := fun y => lse (SS q qs ck cks (y 3)) - Ideal.log ((((y 3).val + 1 : ℕ) : ℝ) : EReal)

variable {q qs K W}
/-- The body's outputs are these blocks. -/
theorem out0_eq {m : Vec Ideal S1x512 .f32} {l : Vec Ideal S8x512 .f32} {a : Vec Ideal S128x512 .f32} (h : Pass q qs K W m l a) :
    out0 q qs ck cv cks cvs m l a = P0 q qs K W ck cv cks cvs := by
  funext y
  obtain ⟨y0, j, d, rfl⟩ : ∃ (y0 : Fin 1) (j : Fin 512) (d : Fin 128), y = ix3 y0 j d := ⟨y 0, y 1, y 2, eq_ix3 y⟩
  obtain rfl : y0 = 0 := Subsingleton.elim _ _
  exact out0_at _ _ _ _ _ _ _ _ _ _ _ h j d
/-- The body's second output is its block. -/
theorem out1_eq {m : Vec Ideal S1x512 .f32} {l : Vec Ideal S8x512 .f32} {a : Vec Ideal S128x512 .f32} (h : Pass q qs K W m l a) :
    out1 m l = P1 q qs K := by
  funext y
  obtain ⟨y0, y1, y2, j, rfl⟩ : ∃ (y0 y1 y2 : Fin 1) (j : Fin 512), y = ix4 y0 y1 y2 j := ⟨y 0, y 1, y 2, y 3, eq_ix4 y⟩
  obtain rfl : y0 = 0 := Subsingleton.elim _ _
  obtain rfl : y1 = 0 := Subsingleton.elim _ _
  obtain rfl : y2 = 0 := Subsingleton.elim _ _
  exact out1_at _ _ _ _ _ _ _ h j
variable (q qs)
/-- The body's third output is its block. -/
theorem out2_eq : out2 q qs ck cks = P2 q qs ck cks := by
  funext y
  obtain ⟨y0, y1, y2, j, rfl⟩ : ∃ (y0 y1 y2 : Fin 1) (j : Fin 512), y = ix4 y0 y1 y2 j := ⟨y 0, y 1, y 2, y 3, eq_ix4 y⟩
  obtain rfl : y0 = 0 := Subsingleton.elim _ _
  obtain rfl : y1 = 0 := Subsingleton.elim _ _
  obtain rfl : y2 = 0 := Subsingleton.elim _ _
  exact out2_at _ _ _ _ j
end

/-- The results' blocks at a grid point. -/
def o0 (c : Dev nD) (t : Fin cfg0.N) : Vec Ideal S1x512x128 .bf16 :=
  P0 (iblk m c 0 t) (iblk m c 1 t) (Kpt m c t) (Vpt m c t) (iblk m c 6 t) (iblk m c 7 t) (iblk m c 8 t) (iblk m c 9 t)
/-- The second result's block at a grid point. -/
def o1 (c : Dev nD) (t : Fin cfg0.N) : Vec Ideal S1x1x1x512 .f32 := P1 (iblk m c 0 t) (iblk m c 1 t) (Kpt m c t)
/-- The third result's block at a grid point. -/
def o2 (c : Dev nD) (t : Fin cfg0.N) : Vec Ideal S1x1x1x512 .f32 := P2 (iblk m c 0 t) (iblk m c 1 t) (iblk m c 6 t) (iblk m c 8 t)

/-- What the body leaves in the first two outputs is these blocks. -/
theorem fin01 (c : Dev nD) (t : Fin cfg0.N) {r2 : Vec Ideal S1x1x512x128 .fp8e4m3} {r3 : Vec Ideal S1x1x1x512 .f32}
    {r4 r5 : Vec Ideal S1x32768x128 .fp8e4m3} {r6 r7 : Vec Ideal S1x256x128 .f32} {r8 r9 : Vec Ideal S1x1x512x128 .fp8e4m3}
    {r10 r11 : Vec Ideal S1x1x512x1 .f32} {r12 : Vec Ideal S1x512x128 .bf16} {r13 : Vec Ideal S1x1x1x512 .f32}
    (e2 : r2 = iblk m c 0 t) (e3 : r3 = iblk m c 1 t) (e4 : r4 = iblk m c 2 t) (e5 : r5 = iblk m c 3 t) (e6 : r6 = iblk m c 4 t)
    (e7 : r7 = iblk m c 5 t) (e8 : r8 = iblk m c 6 t) (e9 : r9 = iblk m c 7 t) (e10 : r10 = iblk m c 8 t) (e11 : r11 = iblk m c 9 t)
    (h : ∃ m l a, Pass r2 r3 (Kmat r4 r6) (Vmat r5 r7) m l a ∧ r12 = out0 r2 r3 r8 r9 r10 r11 m l a ∧ r13 = out1 m l) :
    r12 = o0 m c t ∧ r13 = o1 m c t := by
  subst e2 e3 e4 e5 e6 e7 e8 e9 e10 e11
  obtain ⟨mm, l, a, hp, rfl, rfl⟩ := h
  exact ⟨out0_eq _ _ _ _ hp, out1_eq hp⟩

/-- What the body leaves in the third output is this block. -/
theorem fin2 (c : Dev nD) (t : Fin cfg0.N) {r2 : Vec Ideal S1x1x512x128 .fp8e4m3} {r3 : Vec Ideal S1x1x1x512 .f32}
    {r8 : Vec Ideal S1x1x512x128 .fp8e4m3} {r10 : Vec Ideal S1x1x512x1 .f32} {r14 : Vec Ideal S1x1x1x512 .f32}
    (e2 : r2 = iblk m c 0 t) (e3 : r3 = iblk m c 1 t) (e8 : r8 = iblk m c 6 t) (e10 : r10 = iblk m c 8 t)
    (h : r14 = out2 r2 r3 r8 r10) : r14 = o2 m c t := by
  subst e2 e3 e8 e10 h
  exact out2_eq _ _ _ _

/-- Two grid points of one head have the same prompt blocks. -/
theorem blk2_eq (c : Dev nD) (t t' : Fin cfg0.N) (h : headOf t = headOf t') :
    (iblk m c 2 t : Vec Ideal S1x32768x128 .fp8e4m3) = iblk m c 2 t' := by
  funext y
  obtain ⟨y0, p, d, rfl⟩ : ∃ (y0 : Fin 1) (p : Fin 32768) (d : Fin 128), y = ix3 y0 p d := ⟨y 0, y 1, y 2, eq_ix3 y⟩
  obtain rfl : y0 = 0 := Subsingleton.elim _ _
  exact (blk2_at m c t p d).trans ((congrArg (fun h => V m c main_v3 (ix3 h p d)) h).trans (blk2_at m c t' p d).symm)
/-- Two grid points of one head have the same block of prompt value codes. -/
theorem blk3_eq (c : Dev nD) (t t' : Fin cfg0.N) (h : headOf t = headOf t') :
    (iblk m c 3 t : Vec Ideal S1x32768x128 .fp8e4m3) = iblk m c 3 t' := by
  funext y
  obtain ⟨y0, p, d, rfl⟩ : ∃ (y0 : Fin 1) (p : Fin 32768) (d : Fin 128), y = ix3 y0 p d := ⟨y 0, y 1, y 2, eq_ix3 y⟩
  obtain rfl : y0 = 0 := Subsingleton.elim _ _
  exact (blk3_at m c t p d).trans ((congrArg (fun h => V m c main_v4 (ix3 h p d)) h).trans (blk3_at m c t' p d).symm)
/-- Two grid points of one head have the same block of prompt key scales. -/
theorem blk4_eq (c : Dev nD) (t t' : Fin cfg0.N) (h : headOf t = headOf t') :
    (iblk m c 4 t : Vec Ideal S1x256x128 .f32) = iblk m c 4 t' := by
  funext y
  obtain ⟨y0, p, d, rfl⟩ : ∃ (y0 : Fin 1) (p : Fin 256) (d : Fin 128), y = ix3 y0 p d := ⟨y 0, y 1, y 2, eq_ix3 y⟩
  obtain rfl : y0 = 0 := Subsingleton.elim _ _
  exact (blk4_at m c t p d).trans ((congrArg (fun h => V m c main_v5 (ix3 h p d)) h).trans (blk4_at m c t' p d).symm)
/-- Two grid points of one head have the same block of prompt value scales. -/
theorem blk5_eq (c : Dev nD) (t t' : Fin cfg0.N) (h : headOf t = headOf t') :
    (iblk m c 5 t : Vec Ideal S1x256x128 .f32) = iblk m c 5 t' := by
  funext y
  obtain ⟨y0, p, d, rfl⟩ : ∃ (y0 : Fin 1) (p : Fin 256) (d : Fin 128), y = ix3 y0 p d := ⟨y 0, y 1, y 2, eq_ix3 y⟩
  obtain rfl : y0 = 0 := Subsingleton.elim _ _
  exact (blk5_at m c t p d).trans ((congrArg (fun h => V m c main_v6 (ix3 h p d)) h).trans (blk5_at m c t' p d).symm)

/-- Two grid points of one head have the same keys and values. -/
theorem Kpt_eq (c : Dev nD) (t t' : Fin cfg0.N) (h : headOf t = headOf t') : Kpt m c t = Kpt m c t' :=
  congrArg₂ Kmat (blk2_eq m c t t' h) (blk4_eq m c t t' h)
/-- Two grid points of one head have the same dequantised values. -/
theorem Vpt_eq (c : Dev nD) (t t' : Fin cfg0.N) (h : headOf t = headOf t') : Vpt m c t = Vpt m c t' :=
  congrArg₂ Vmat (blk3_eq m c t t' h) (blk5_eq m c t t' h)

/-- The invariant before grid point `n`: the scratch buffers of the keys and the values hold the preceding point's. -/
def vΦ (c : Dev nD) (n : ℕ) : sProp 𝕄 :=
  iprop((∃ d15, ∃ d16, owns (c : Thread nD τ) (Memref.whole cc0_scratch0) fullShare d15 ∗ owns (c : Thread nD τ) (Memref.whole cc0_scratch1) fullShare d16
      ∗ ⌜∀ t : Fin cfg0.N, t.val + 1 = n → d15 = Kpt m c t ∧ d16 = Vpt m c t⌝)
    ∗ (∃ d, owns (c : Thread nD τ) (Memref.whole cc0_scratch2) fullShare d)
    ∗ (∃ d, owns (c : Thread nD τ) (Memref.whole cc0_scratch3) fullShare d)
    ∗ (∃ d, owns (c : Thread nD τ) (Memref.whole cc0_scratch4) fullShare d)
    ∗ (∃ d, owns (c : Thread nD τ) (Memref.whole cc0_scratch5) fullShare d)
    ∗ (∃ r, prngReg c r))

/-- The proof data on core `c`. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => o0 m c t
    | ⟨11, _⟩ => o1 m c t
    | ⟨12, _⟩ => o2 m c t
  Φ t := vΦ m c t.val
  q _ := fullShare
  owed _ := 0

/-- The proof data's arrays are those the host operations before the kernel leave. -/
theorem vA_eq (c : Dev nD) (w : Fin cfg0.W) : (vdats m 0 c).A w = V m c (Pipeline.arrRef spec0 w) := by dsimp only [vdats]

/-- Before the body, window 0's staging buffer holds its block. -/
theorem vbefore0 (c : Dev nD) (t : Fin cfg0.N) (d) : (vdats m 0 c).before 0 t d = iblk m c 0 t := before0_0_of m _ (vA_eq m c 0) (fun _ => rfl) t d
/-- Before the body, window 1's staging buffer holds its block. -/
theorem vbefore1 (c : Dev nD) (t : Fin cfg0.N) (d) : (vdats m 0 c).before 1 t d = iblk m c 1 t := before0_1_of m _ (vA_eq m c 1) (fun _ => rfl) t d
/-- Before the body, window 2's staging buffer holds its block. -/
theorem vbefore2 (c : Dev nD) (t : Fin cfg0.N) (d) : (vdats m 0 c).before 2 t d = iblk m c 2 t := before0_2_of m _ (vA_eq m c 2) (fun _ => rfl) t d
/-- Before the body, window 3's staging buffer holds its block. -/
theorem vbefore3 (c : Dev nD) (t : Fin cfg0.N) (d) : (vdats m 0 c).before 3 t d = iblk m c 3 t := before0_3_of m _ (vA_eq m c 3) (fun _ => rfl) t d
/-- Before the body, window 4's staging buffer holds its block. -/
theorem vbefore4 (c : Dev nD) (t : Fin cfg0.N) (d) : (vdats m 0 c).before 4 t d = iblk m c 4 t := before0_4_of m _ (vA_eq m c 4) (fun _ => rfl) t d
/-- Before the body, window 5's staging buffer holds its block. -/
theorem vbefore5 (c : Dev nD) (t : Fin cfg0.N) (d) : (vdats m 0 c).before 5 t d = iblk m c 5 t := before0_5_of m _ (vA_eq m c 5) (fun _ => rfl) t d
/-- Before the body, window 6's staging buffer holds its block. -/
theorem vbefore6 (c : Dev nD) (t : Fin cfg0.N) (d) : (vdats m 0 c).before 6 t d = iblk m c 6 t := before0_6_of m _ (vA_eq m c 6) (fun _ => rfl) t d
/-- Before the body, window 7's staging buffer holds its block. -/
theorem vbefore7 (c : Dev nD) (t : Fin cfg0.N) (d) : (vdats m 0 c).before 7 t d = iblk m c 7 t := before0_7_of m _ (vA_eq m c 7) (fun _ => rfl) t d
/-- Before the body, window 8's staging buffer holds its block. -/
theorem vbefore8 (c : Dev nD) (t : Fin cfg0.N) (d) : (vdats m 0 c).before 8 t d = iblk m c 8 t := before0_8_of m _ (vA_eq m c 8) (fun _ => rfl) t d
/-- Before the body, window 9's staging buffer holds its block. -/
theorem vbefore9 (c : Dev nD) (t : Fin cfg0.N) (d) : (vdats m 0 c).before 9 t d = iblk m c 9 t := before0_9_of m _ (vA_eq m c 9) (fun _ => rfl) t d

/-- What the body is called with at point `t`, -/
def vbodyPre (c : Dev nD) (t : Fin cfg0.N) : sProp 𝕄 :=
  iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d))
    ∗ (∃ d, owns (c : Thread nD τ) (st0_4 t) fullShare ((vdats m 0 c).before 4 t d))
    ∗ (∃ d, owns (c : Thread nD τ) (st0_5 t) fullShare ((vdats m 0 c).before 5 t d))
    ∗ (∃ d, owns (c : Thread nD τ) (st0_6 t) fullShare ((vdats m 0 c).before 6 t d))
    ∗ (∃ d, owns (c : Thread nD τ) (st0_7 t) fullShare ((vdats m 0 c).before 7 t d))
    ∗ (∃ d, owns (c : Thread nD τ) (st0_8 t) fullShare ((vdats m 0 c).before 8 t d))
    ∗ (∃ d, owns (c : Thread nD τ) (st0_9 t) fullShare ((vdats m 0 c).before 9 t d))
    ∗ (∃ d, owns (c : Thread nD τ) (st0_10 t) fullShare ((vdats m 0 c).before 10 t d))
    ∗ (∃ d, owns (c : Thread nD τ) (st0_11 t) fullShare ((vdats m 0 c).before 11 t d))
    ∗ (∃ d, owns (c : Thread nD τ) (st0_12 t) fullShare ((vdats m 0 c).before 12 t d)))
/-- and what it returns. -/
def vbodyPost (c : Dev nD) (t : Fin cfg0.N) : sProp 𝕄 :=
  iprop((vdats m 0 c).Φ t.succ ∗ (vdats m 0 c).owesAt () t.succ
    ∗ owns (c : Thread nD τ) (st0_0 t) fullShare ((vdats m 0 c).after 0 t)
    ∗ owns (c : Thread nD τ) (st0_1 t) fullShare ((vdats m 0 c).after 1 t)
    ∗ owns (c : Thread nD τ) (st0_2 t) fullShare ((vdats m 0 c).after 2 t)
    ∗ owns (c : Thread nD τ) (st0_3 t) fullShare ((vdats m 0 c).after 3 t)
    ∗ owns (c : Thread nD τ) (st0_4 t) fullShare ((vdats m 0 c).after 4 t)
    ∗ owns (c : Thread nD τ) (st0_5 t) fullShare ((vdats m 0 c).after 5 t)
    ∗ owns (c : Thread nD τ) (st0_6 t) fullShare ((vdats m 0 c).after 6 t)
    ∗ owns (c : Thread nD τ) (st0_7 t) fullShare ((vdats m 0 c).after 7 t)
    ∗ owns (c : Thread nD τ) (st0_8 t) fullShare ((vdats m 0 c).after 8 t)
    ∗ owns (c : Thread nD τ) (st0_9 t) fullShare ((vdats m 0 c).after 9 t)
    ∗ owns (c : Thread nD τ) (st0_10 t) fullShare ((vdats m 0 c).after 10 t)
    ∗ owns (c : Thread nD τ) (st0_11 t) fullShare ((vdats m 0 c).after 11 t)
    ∗ owns (c : Thread nD τ) (st0_12 t) fullShare ((vdats m 0 c).after 12 t))

/-- The first test of the body: whether the point is its head's first. -/
theorem first_of (t : Fin cfg0.N) (h : ¬ k0_cond1 (grid0.coords t) = 1#1) : t.val % 20 ≠ 0 :=
  (by decide +kernel : ∀ t : Fin grid0.N, ¬ k0_cond1 (grid0.coords t) = 1#1 → t.val % 20 ≠ 0) t h

/-- The scratch is right where it is not refilled. -/
theorem carried (c : Dev nD) (t : Fin cfg0.N) {d15 : Vec Ideal S32768x128 .bf16} {d16 : Vec Ideal S128x32768 .bf16}
    (hΦ : ∀ t' : Fin cfg0.N, t'.val + 1 = t.val → d15 = Kpt m c t' ∧ d16 = Vpt m c t') (h : ¬ k0_cond1 (grid0.coords t) = 1#1) :
    d15 = Kpt m c t ∧ d16 = Vpt m c t := by
  have h20 := first_of t h
  have ht : t.val < 160 := t.isLt
  have e := hΦ ⟨t.val - 1, by show t.val - 1 < 160; omega⟩ (by show t.val - 1 + 1 = t.val; omega)
  have hh : headOf ⟨t.val - 1, by show t.val - 1 < 160; omega⟩ = headOf t := by
    apply Fin.ext; show (t.val - 1) / 20 = t.val / 20; omega
  exact ⟨e.1.trans (Kpt_eq m c _ _ hh), e.2.trans (Vpt_eq m c _ _ hh)⟩

/-- The scratch is right where it is not refilled, at the blocks the body reads. -/
theorem carriedK (c : Dev nD) (t : Fin cfg0.N) {d15 r15 : Vec Ideal S32768x128 .bf16} {d16 : Vec Ideal S128x32768 .bf16}
    {r4 : Vec Ideal S1x32768x128 .fp8e4m3} {r6 : Vec Ideal S1x256x128 .f32}
    (hΦ : ∀ t' : Fin cfg0.N, t'.val + 1 = t.val → d15 = Kpt m c t' ∧ d16 = Vpt m c t') (e15 : r15 = d15)
    (e4 : r4 = iblk m c 2 t) (e6 : r6 = iblk m c 4 t) (h : ¬ k0_cond1 (grid0.coords t) = 1#1) : r15 = Kmat r4 r6 := by
  subst e4 e6; exact e15.trans (carried m c t hΦ h).1
/-- The same for the values. -/
theorem carriedV (c : Dev nD) (t : Fin cfg0.N) {d15 : Vec Ideal S32768x128 .bf16} {d16 r16 : Vec Ideal S128x32768 .bf16}
    {r5 : Vec Ideal S1x32768x128 .fp8e4m3} {r7 : Vec Ideal S1x256x128 .f32}
    (hΦ : ∀ t' : Fin cfg0.N, t'.val + 1 = t.val → d15 = Kpt m c t' ∧ d16 = Vpt m c t') (e16 : r16 = d16)
    (e5 : r5 = iblk m c 3 t) (e7 : r7 = iblk m c 5 t) (h : ¬ k0_cond1 (grid0.coords t) = 1#1) : r16 = Vmat r5 r7 := by
  subst e5 e7; exact e16.trans (carried m c t hΦ h).2
/-- The scratch the body leaves is the point's. -/
theorem leftK (c : Dev nD) (t : Fin cfg0.N) {r15 : Vec Ideal S32768x128 .bf16} {r16 : Vec Ideal S128x32768 .bf16}
    {r4 r5 : Vec Ideal S1x32768x128 .fp8e4m3} {r6 r7 : Vec Ideal S1x256x128 .f32}
    (e4 : r4 = iblk m c 2 t) (e5 : r5 = iblk m c 3 t) (e6 : r6 = iblk m c 4 t) (e7 : r7 = iblk m c 5 t)
    (h15 : r15 = Kmat r4 r6) (h16 : r16 = Vmat r5 r7) :
    ∀ t' : Fin cfg0.N, t'.val + 1 = t.val + 1 → r15 = Kpt m c t' ∧ r16 = Vpt m c t' := by
  subst e4 e5 e6 e7
  intro t' ht
  obtain rfl : t' = t := Fin.ext (by omega)
  exact ⟨h15, h16⟩

set_option maxHeartbeats 4000000 in
/-- The body at any point. -/
theorem vsound_body (c : Dev nD) (t : Fin cfg0.N) :
    vbodyPre m c t ⊢ wp frame (wpE (defs₀ (F := Ideal)) Variants.none c none) Set.univ (bodyAt0 t) (fun _ => vbodyPost m c t) := by
  unfold vbodyPre vbodyPost bodyAt0
  rw [show (vdats m 0 c).owesAt () t.succ = (vdats m 0 c).owesAt () t.castSucc from rfl,
    show (vdats m 0 c).Φ t.castSucc = vΦ m c t.val from rfl, show (vdats m 0 c).Φ t.succ = vΦ m c (t.val + 1) from rfl]
  simp only [vbefore0, vbefore1, vbefore2, vbefore3, vbefore4, vbefore5, vbefore6, vbefore7, vbefore8, vbefore9]
  rw [show (vdats m 0 c).after 0 t = iblk m c 0 t from rfl]
  rw [show (vdats m 0 c).after 1 t = iblk m c 1 t from rfl]
  rw [show (vdats m 0 c).after 2 t = iblk m c 2 t from rfl]
  rw [show (vdats m 0 c).after 3 t = iblk m c 3 t from rfl]
  rw [show (vdats m 0 c).after 4 t = iblk m c 4 t from rfl]
  rw [show (vdats m 0 c).after 5 t = iblk m c 5 t from rfl]
  rw [show (vdats m 0 c).after 6 t = iblk m c 6 t from rfl]
  rw [show (vdats m 0 c).after 7 t = iblk m c 7 t from rfl]
  rw [show (vdats m 0 c).after 8 t = iblk m c 8 t from rfl]
  rw [show (vdats m 0 c).after 9 t = iblk m c 9 t from rfl]
  rw [show (vdats m 0 c).after 10 t = o0 m c t from rfl]
  rw [show (vdats m 0 c).after 11 t = o1 m c t from rfl]
  rw [show (vdats m 0 c).after 12 t = o2 m c t from rfl]
  unfold vΦ owns
  iintro ⟨⟨⟨%d15, %d16, ⟨%f15, %e15, H15⟩, ⟨%f16, %e16, H16⟩, %hΦ⟩, ⟨%d17, %f17, -, H17⟩, ⟨%d18, %f18, -, H18⟩, ⟨%d19, %f19, -, H19⟩, ⟨%d20, %f20, -, H20⟩, Hg⟩, Ho, ⟨%d0, %f2, %e2, H2⟩, ⟨%d1, %f3, %e3, H3⟩, ⟨%d2, %f4, %e4, H4⟩, ⟨%d3, %f5, %e5, H5⟩, ⟨%d4, %f6, %e6, H6⟩, ⟨%d5, %f7, %e7, H7⟩, ⟨%d6, %f8, %e8, H8⟩, ⟨%d7, %f9, %e9, H9⟩, ⟨%d8, %f10, %e10, H10⟩, ⟨%d9, %f11, %e11, H11⟩, ⟨%d10, %f12, -, H12⟩, ⟨%d11, %f13, -, H13⟩, ⟨%d12, %f14, -, H14⟩⟩
  iapply (bodyRun c (grid0.coords t) _ _ _ _ _ _ _ _ _ _ _ _ _ _ _ _ _ _ _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f2 f3 f4 f5 f6 f7 f8 f9 f10 f11 f12 f13 f14 f15 f16 f17 f18 f19 f20 (carriedK m c t hΦ e15 e4 e6) (carriedV m c t hΦ e16 e5 e7) _)
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  isplitl [H13]; iexact H13
  isplitl [H14]; iexact H14
  isplitl [H15]; iexact H15
  isplitl [H16]; iexact H16
  isplitl [H17]; iexact H17
  isplitl [H18]; iexact H18
  isplitl [H19]; iexact H19
  isplitl [H20]; iexact H20
  iintro %g12 %g13 %g14 %g15 %g16 %g17 %g18 %g19 %g20 ⟨H2, H3, H4, H5, H6, H7, H8, H9, H10, H11, H12, H13, H14, H15, H16, H17, H18, H19, H20, %h01, %h2, %h15, %h16⟩
  have o01 := fin01 m c t e2 e3 e4 e5 e6 e7 e8 e9 e10 e11 h01
  have o2' := fin2 m c t e2 e3 e8 e10 h2
  have hl := leftK m c t e4 e5 e6 e7 h15 h16
  isplitl [H15 H16 H17 H18 H19 H20 Hg]
  · isplitl [H15 H16]
    · iexists _, _
      isplitl [H15]; · iexists _; isplitr; swap; iexact H15; ipureintro; rfl
      isplitl [H16]; · iexists _; isplitr; swap; iexact H16; ipureintro; rfl
      ipureintro; exact hl
    isplitl [H17]; · iexists _, _; isplitr; swap; iexact H17; ipureintro; rfl
    isplitl [H18]; · iexists _, _; isplitr; swap; iexact H18; ipureintro; rfl
    isplitl [H19]; · iexists _, _; isplitr; swap; iexact H19; ipureintro; rfl
    isplitl [H20]; · iexists _, _; isplitr; swap; iexact H20; ipureintro; rfl
    iexact Hg
  isplitl [Ho]; · iexact Ho
  isplitl [H2]; · iexists _; isplitr; swap; iexact H2; ipureintro; exact e2
  isplitl [H3]; · iexists _; isplitr; swap; iexact H3; ipureintro; exact e3
  isplitl [H4]; · iexists _; isplitr; swap; iexact H4; ipureintro; exact e4
  isplitl [H5]; · iexists _; isplitr; swap; iexact H5; ipureintro; exact e5
  isplitl [H6]; · iexists _; isplitr; swap; iexact H6; ipureintro; exact e6
  isplitl [H7]; · iexists _; isplitr; swap; iexact H7; ipureintro; exact e7
  isplitl [H8]; · iexists _; isplitr; swap; iexact H8; ipureintro; exact e8
  isplitl [H9]; · iexists _; isplitr; swap; iexact H9; ipureintro; exact e9
  isplitl [H10]; · iexists _; isplitr; swap; iexact H10; ipureintro; exact e10
  isplitl [H11]; · iexists _; isplitr; swap; iexact H11; ipureintro; exact e11
  isplitl [H12]; · iexists _; isplitr; swap; iexact H12; ipureintro; exact o01.1
  isplitl [H13]; · iexists _; isplitr; swap; iexact H13; ipureintro; exact o01.2
  iexists _; isplitr; swap; iexact H14; ipureintro; exact o2'

/-- The library's body obligation. -/
theorem vbody_obligation (c : Dev nD) : BodyObligation (vdats m 0 c) (defs₀ (F := Ideal)) Variants.none () Set.univ := fun t => by
  rw [bigSep_W0, bigSep_W0, Hand.fdefs₀_row]
  exact triple_restated (vsound_body m c t) rfl .rfl fun _ => .rfl

/-- The invariant holds before the first point and gives the scratch back after the last. -/
theorem vin (c : Dev nD) : Pipeline.ΦA spec0 c ⊢ (vdats m 0 c).Φ 0 := by
  show _ ⊢ vΦ m c 0
  unfold Pipeline.ΦA vΦ
  rw [scopedRest0_eq]
  simp only [← owns_whole]
  iintro ⟨⟨⟨%f15, H15⟩, ⟨%f16, H16⟩, H17, H18, H19, H20⟩, Hg⟩
  isplitl [H15 H16]
  · iexists _, _
    isplitl [H15]; · iexact H15
    isplitl [H16]; · iexact H16
    ipureintro; intro t h; omega
  isplitl [H17]; · iexact H17
  isplitl [H18]; · iexact H18
  isplitl [H19]; · iexact H19
  isplitl [H20]; · iexact H20
  iexact Hg
/-- After the last point the invariant gives the scratch buffers back. -/
theorem vout (c : Dev nD) : (vdats m 0 c).Φ (Fin.last cfg0.N) ⊢ Pipeline.ΦA spec0 c := by
  show vΦ m c _ ⊢ _
  unfold Pipeline.ΦA vΦ
  rw [scopedRest0_eq]
  simp only [← owns_whole]
  iintro ⟨⟨%f15, %f16, H15, H16, -⟩, H17, H18, H19, H20, Hg⟩
  isplitr [Hg]; swap; · iexact Hg
  isplitl [H15]; · iexists _; iexact H15
  isplitl [H16]; · iexists _; iexact H16
  isplitl [H17]; · iexact H17
  isplitl [H18]; · iexact H18
  isplitl [H19]; · iexact H19
  iexact H20

set_option backward.isDefEq.respectTransparency.types false in
set_option maxHeartbeats 800000 in
/-- The run: every array ends at what its blocks leave, every other buffer as the later host operations leave it. -/
theorem vrun_main :
    θ_run defs (onTc (τ := τ) (main (F := Ideal))) (s₀ m ρ)
      (Pipeline.FramePost cfgs (vdats m) 0 (Pipeline.afterTail₀ cfgs (vdats m) 0 (V0 m) [hostOps1])) :=
  Pipeline.θ_run_frame_around_track (Q' := _) cfgs (vdats m) (0 : Fin 1) launch0 defs₀ Variants.none m ρ main
    (hbody := fun c => (vbody_obligation m c).loose) (hshare := fun c => (vdats m 0 c).share_full fun _ => rfl)
    (howed := fun _ _ => rfl) (V₀ := V0 m) (opss := [hostOps1]) (hsub := sfx_sub) (hfresh := sfx_fresh) (hkeep := sfx_keeps)
    (hmain := hmain m Variants.none) (hA := vA_eq m) (hin := vin m) (hout := vout m)

end Cert.KernelIdeal.Val

end
-- ==== Proof.Result.lean ====
/-
  The kernel's run with its results as arrays of its arguments.
-/
module

public import proofs.«01_k».proof.Proof.Gen.KernelIdeal.Frame
public import proofs.«01_k».proof.Proof.Launch
public import proofs.«01_k».proof.Proof.Arrays
public import Idealize.ShloMosaic.Lib.Claim
public import Idealize.ShloMosaic.Lib.Pipeline.Frame
public import Idealize.ShloMosaic.Lib.Pipeline.ValueKit
public import Idealize.ShloMosaic.Lib.Pointwise
public import Idealize.ShloMosaic.Lib.Tactic
public import Idealize.ShloMosaic.PureOps.Ideal
public import Idealize.ShloMosaic.PureOps.Ideal.Laws

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Cert.Attn

open Cert.Attn

section
variable {a0 : Arr4 4 512 40 128} {a1 : Arr3 4 512 40} {a2 a3 : Arr3 32768 8 128} {a4 a5 : Arr3 256 8 128}
  {a6 a7 : Arr4 4 512 8 128} {a8 a9 : Arr3 4 512 8} {b : Fin 4} {n : Fin 40} {h : Fin 8}
  {q : Vec Ideal S1x1x512x128 .fp8e4m3} {qs : Vec Ideal S1x1x1x512 .f32}
  {kc vc : Vec Ideal S1x32768x128 .fp8e4m3} {ksc vsc : Vec Ideal S1x256x128 .f32}
  {ck cv : Vec Ideal S1x1x512x128 .fp8e4m3} {cks cvs : Vec Ideal S1x1x512x1 .f32}
  (h0 : ∀ (j : Fin 512) (d : Fin 128), (q (ix4 (0 : Fin 1) (0 : Fin 1) j d) : EReal) = a0 (ix4 b j n d))
  (h1 : ∀ j : Fin 512, (qs (ix4 (0 : Fin 1) (0 : Fin 1) (0 : Fin 1) j) : EReal) = a1 (ix3 b j n))
  (h2 : ∀ (p : Fin 32768) (d : Fin 128), (kc (ix3 (0 : Fin 1) p d) : EReal) = a2 (ix3 p h d))
  (h3 : ∀ (p : Fin 32768) (d : Fin 128), (vc (ix3 (0 : Fin 1) p d) : EReal) = a3 (ix3 p h d))
  (h4 : ∀ (p : Fin 256) (d : Fin 128), (ksc (ix3 (0 : Fin 1) p d) : EReal) = a4 (ix3 p h d))
  (h5 : ∀ (p : Fin 256) (d : Fin 128), (vsc (ix3 (0 : Fin 1) p d) : EReal) = a5 (ix3 p h d))
  (h6 : ∀ (s : Fin 512) (d : Fin 128), (ck (ix4 (0 : Fin 1) (0 : Fin 1) s d) : EReal) = a6 (ix4 b s h d))
  (h7 : ∀ (s : Fin 512) (d : Fin 128), (cv (ix4 (0 : Fin 1) (0 : Fin 1) s d) : EReal) = a7 (ix4 b s h d))
  (h8 : ∀ s : Fin 512, (cks (ix4 (0 : Fin 1) (0 : Fin 1) s (0 : Fin 1)) : EReal) = a8 (ix3 b s h))
  (h9 : ∀ s : Fin 512, (cvs (ix4 (0 : Fin 1) (0 : Fin 1) s (0 : Fin 1)) : EReal) = a9 (ix3 b s h))
  (hh : kv n = h)

include h2 h4 in
/-- A head's dequantised prompt array at a position. -/
theorem Kmat_deq (p : Fin 32768) (d : Fin 128) :
    (Kmat kc ksc (ix2 p d) : EReal) = deq (fun p h d => a2 (ix3 p h d)) (fun p h d => a4 (ix3 p h d)) h p d := by
  show (kc (ix3 (0 : Fin 1) p d) * ksc (ix3 (0 : Fin 1) (page p) d) : EReal) = a2 (ix3 p h d) * a4 (ix3 (page p) h d)
  rw [h2, h4]

include h3 h5 in
/-- A head's dequantised values at a lane and a position. -/
theorem Vmat_deq (p : Fin 32768) (d : Fin 128) :
    (Vmat vc vsc (ix2 d p) : EReal) = deq (fun p h d => a3 (ix3 p h d)) (fun p h d => a5 (ix3 p h d)) h p d :=
  Kmat_deq h3 h5 p d

include h0 h1 h2 h4 hh in
/-- The prompt's scores, from the blocks and from the arguments. -/
theorem SP_eq (j : Fin 512) : SP q qs (Kmat kc ksc) j
    = scoreP (fun b t n d => a0 (ix4 b t n d)) (fun b t n => a1 (ix3 b t n)) (fun p h d => a2 (ix3 p h d)) (fun p h d => a4 (ix3 p h d)) b j n := by
  subst hh
  funext p
  unfold SP scoreP
  rw [h1]
  congr 1
  exact Finset.sum_congr rfl fun d _ => by rw [Kmat_deq h2 h4, h0]

include h0 h1 h6 h8 hh in
/-- The completion's scores, from the blocks and from the arguments. -/
theorem SS_eq (j : Fin 512) : SS q qs ck cks j
    = scoreS (fun b t n d => a0 (ix4 b t n d)) (fun b t n => a1 (ix3 b t n)) (fun b t h d => a6 (ix4 b t h d)) (fun b t h => a8 (ix3 b t h)) b j n := by
  subst hh
  funext s
  unfold SS scoreS
  rw [h1, h8]
  split
  · rfl
  · congr 2
    exact Finset.sum_congr rfl fun d _ => by rw [h6, h0]

include h0 h1 h2 h3 h4 h5 h6 h7 h8 h9 hh in
/-- The first result's block at an index. -/
theorem P0_at (j : Fin 512) (d : Fin 128) (x : Fin 5120) (hx : x.val = 128 * n.val + d.val) :
    (P0 q qs (Kmat kc ksc) (Vmat vc vsc) ck cv cks cvs (ix3 (0 : Fin 1) j d) : EReal) = arr0 a0 a1 a2 a3 a4 a5 a6 a7 a8 a9 (ix3 b j x) := by
  have hd := d.isLt
  have hn := n.isLt
  have e1 : (⟨x.val / 128, by have h := x.isLt; omega⟩ : Fin 40) = n := Fin.ext (by show x.val / 128 = n.val; omega)
  have e2 : (⟨x.val % 128, Nat.mod_lt _ (by norm_num)⟩ : Fin 128) = d := Fin.ext (by show x.val % 128 = d.val; omega)
  show mix (lse (SP q qs (Kmat kc ksc) j)) (lse (SS q qs ck cks j)) (att (SP q qs (Kmat kc ksc) j) fun p => Vmat vc vsc (ix2 d p))
    (att (SS q qs ck cks j) fun s => cv (ix4 (0 : Fin 1) (0 : Fin 1) s d) * cvs (ix4 (0 : Fin 1) (0 : Fin 1) s (0 : Fin 1))) =
    res0 _ _ _ _ _ _ _ _ _ _ b j (⟨x.val / 128, _⟩ : Fin 40) (⟨x.val % 128, _⟩ : Fin 128)
  rw [e1, e2, SP_eq h0 h1 h2 h4 hh, SS_eq h0 h1 h6 h8 hh,
    show (fun p => (Vmat vc vsc (ix2 d p) : EReal)) = fun p => deq (fun p h d => a3 (ix3 p h d)) (fun p h d => a5 (ix3 p h d)) h p d from
      funext fun p => Vmat_deq h3 h5 p d,
    show (fun s : Fin 512 => (cv (ix4 (0 : Fin 1) (0 : Fin 1) s d) * cvs (ix4 (0 : Fin 1) (0 : Fin 1) s (0 : Fin 1)) : EReal))
      = fun s => a7 (ix4 b s h d) * a9 (ix3 b s h) from funext fun s => by rw [h7, h9]]
  subst hh
  rfl

include h0 h1 h2 h4 hh in
/-- The second result's block at an index. -/
theorem P1_at (j : Fin 512) :
    (P1 q qs (Kmat kc ksc) (ix4 (0 : Fin 1) (0 : Fin 1) (0 : Fin 1) j) : EReal) = arr1 a0 a1 a2 a4 (ix3 b j n) := by
  show lse (SP q qs (Kmat kc ksc) j) - Ideal.ofBits .f32 0x41265AF6#32 = _
  rw [SP_eq h0 h1 h2 h4 hh]
  rfl

include h0 h1 h6 h8 hh in
/-- The third result's block at an index. -/
theorem P2_at (j : Fin 512) :
    (P2 q qs ck cks (ix4 (0 : Fin 1) (0 : Fin 1) (0 : Fin 1) j) : EReal) = arr2 a0 a1 a6 a8 (ix3 b j n) := by
  show lse (SS q qs ck cks j) - Ideal.log (((j.val + 1 : ℕ) : ℝ) : EReal) = _
  rw [SS_eq h0 h1 h6 h8 hh]
  rfl
end

section
variable (c : Dev nD) (t : Fin cfg0.N)
/-- A point's blocks are the arguments' at its batch and heads. -/
theorem arg0_at (j : Fin 512) (d : Fin 128) : (iblk m c 0 t (ix4 (0 : Fin 1) (0 : Fin 1) j d) : EReal) = m ((c.tc : Thread nD τ).loc main_arg0) (ix4 (batchOf t) j (qheadOf t) d) :=
  (blk0_at m c t j d).trans (V_main_v0_at m c (batchOf t) (qheadOf t) j d)
/-- Window 1's block is argument 1 at the point's batch and head. -/
theorem arg1_at (j : Fin 512) : (iblk m c 1 t (ix4 (0 : Fin 1) (0 : Fin 1) (0 : Fin 1) j) : EReal) = m ((c.tc : Thread nD τ).loc main_arg1) (ix3 (batchOf t) j (qheadOf t)) :=
  (blk1_at m c t j).trans (V_main_v2_at m c (batchOf t) (qheadOf t) j)
/-- Window 2's block is argument 2 at the point's batch and head. -/
theorem arg2_at (p : Fin 32768) (d : Fin 128) : (iblk m c 2 t (ix3 (0 : Fin 1) p d) : EReal) = m ((c.tc : Thread nD τ).loc main_arg2) (ix3 p (headOf t) d) :=
  (blk2_at m c t p d).trans (V_main_v3_at m c (headOf t) p d)
/-- Window 3's block is argument 3 at the point's batch and head. -/
theorem arg3_at (p : Fin 32768) (d : Fin 128) : (iblk m c 3 t (ix3 (0 : Fin 1) p d) : EReal) = m ((c.tc : Thread nD τ).loc main_arg3) (ix3 p (headOf t) d) :=
  (blk3_at m c t p d).trans (V_main_v4_at m c (headOf t) p d)
/-- Window 4's block is argument 4 at the point's batch and head. -/
theorem arg4_at (p : Fin 256) (d : Fin 128) : (iblk m c 4 t (ix3 (0 : Fin 1) p d) : EReal) = m ((c.tc : Thread nD τ).loc main_arg4) (ix3 p (headOf t) d) :=
  (blk4_at m c t p d).trans (V_main_v5_at m c (headOf t) p d)
/-- Window 5's block is argument 5 at the point's batch and head. -/
theorem arg5_at (p : Fin 256) (d : Fin 128) : (iblk m c 5 t (ix3 (0 : Fin 1) p d) : EReal) = m ((c.tc : Thread nD τ).loc main_arg5) (ix3 p (headOf t) d) :=
  (blk5_at m c t p d).trans (V_main_v6_at m c (headOf t) p d)
/-- Window 6's block is argument 6 at the point's batch and head. -/
theorem arg6_at (s : Fin 512) (d : Fin 128) : (iblk m c 6 t (ix4 (0 : Fin 1) (0 : Fin 1) s d) : EReal) = m ((c.tc : Thread nD τ).loc main_arg6) (ix4 (batchOf t) s (headOf t) d) :=
  (blk6_at m c t s d).trans (V_main_v7_at m c (batchOf t) (headOf t) s d)
/-- Window 7's block is argument 7 at the point's batch and head. -/
theorem arg7_at (s : Fin 512) (d : Fin 128) : (iblk m c 7 t (ix4 (0 : Fin 1) (0 : Fin 1) s d) : EReal) = m ((c.tc : Thread nD τ).loc main_arg7) (ix4 (batchOf t) s (headOf t) d) :=
  (blk7_at m c t s d).trans (V_main_v8_at m c (batchOf t) (headOf t) s d)
/-- Window 8's block is argument 8 at the point's batch and head. -/
theorem arg8_at (s : Fin 512) : (iblk m c 8 t (ix4 (0 : Fin 1) (0 : Fin 1) s (0 : Fin 1)) : EReal) = m ((c.tc : Thread nD τ).loc main_arg8) (ix3 (batchOf t) s (headOf t)) :=
  (blk8_at m c t s).trans (V_main_v10_at m c (batchOf t) (headOf t) s)
/-- Window 9's block is argument 9 at the point's batch and head. -/
theorem arg9_at (s : Fin 512) : (iblk m c 9 t (ix4 (0 : Fin 1) (0 : Fin 1) s (0 : Fin 1)) : EReal) = m ((c.tc : Thread nD τ).loc main_arg9) (ix3 (batchOf t) s (headOf t)) :=
  (blk9_at m c t s).trans (V_main_v12_at m c (batchOf t) (headOf t) s)

/-- Result 1's block at a grid point is the result's array at the point's batch and head. -/
theorem o0_at (j : Fin 512) (d : Fin 128) (x : Fin 5120) (hx : x.val = 128 * (qheadOf t).val + d.val) :
    (o0 m c t (ix3 (0 : Fin 1) j d) : EReal) = arr0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix3 (batchOf t) j x) :=
  P0_at (arg0_at m c t) (arg1_at m c t) (arg2_at m c t) (arg3_at m c t) (arg4_at m c t) (arg5_at m c t) (arg6_at m c t) (arg7_at m c t) (arg8_at m c t) (arg9_at m c t) (kv_qhead t) j d x hx
/-- Result 2's block at a grid point is the result's array at the point's batch and head. -/
theorem o1_at (j : Fin 512) : (o1 m c t (ix4 (0 : Fin 1) (0 : Fin 1) (0 : Fin 1) j) : EReal)
    = arr1 (m ((c.tc : Thread nD τ).loc main_arg0)) (m ((c.tc : Thread nD τ).loc main_arg1)) (m ((c.tc : Thread nD τ).loc main_arg2)) (m ((c.tc : Thread nD τ).loc main_arg4)) (ix3 (batchOf t) j (qheadOf t)) :=
  P1_at (arg0_at m c t) (arg1_at m c t) (arg2_at m c t) (arg4_at m c t) (kv_qhead t) j
/-- Result 3's block at a grid point is the result's array at the point's batch and head. -/
theorem o2_at (j : Fin 512) : (o2 m c t (ix4 (0 : Fin 1) (0 : Fin 1) (0 : Fin 1) j) : EReal)
    = arr2 (m ((c.tc : Thread nD τ).loc main_arg0)) (m ((c.tc : Thread nD τ).loc main_arg1)) (m ((c.tc : Thread nD τ).loc main_arg6)) (m ((c.tc : Thread nD τ).loc main_arg8)) (ix3 (batchOf t) j (qheadOf t)) :=
  P2_at (arg0_at m c t) (arg1_at m c t) (arg6_at m c t) (arg8_at m c t) (kv_qhead t) j

/-- Where an output window's block lies in its array. -/
theorem emb10 (j : Fin 512) (d : Fin 128) : (win0_10.blk t).view.emb (ix3 (0 : Fin 1) j d)
    = ix3 (batchOf t) j ⟨128 * (qheadOf t).val + d.val, by have h1 := (qheadOf t).isLt; have h2 := d.isLt; omega⟩ := by
  funext a; apply Fin.ext
  fin_cases a <;> (blk_simp [index10] <;> simp [ix3, ix4, batchOf, qheadOf]) <;> omega
/-- Where window 11's block lies in its array. -/
theorem emb11 (j : Fin 512) : (win0_11.blk t).view.emb (ix4 (0 : Fin 1) (0 : Fin 1) (0 : Fin 1) j)
    = ix4 (batchOf t) (qheadOf t) (0 : Fin 1) j := by
  funext a; apply Fin.ext
  fin_cases a <;> (blk_simp [index11] <;> simp [ix3, ix4, batchOf, qheadOf])
/-- Where window 12's block lies in its array. -/
theorem emb12 (j : Fin 512) : (win0_12.blk t).view.emb (ix4 (0 : Fin 1) (0 : Fin 1) (0 : Fin 1) j)
    = ix4 (batchOf t) (qheadOf t) (0 : Fin 1) j := by
  funext a; apply Fin.ext
  fin_cases a <;> (blk_simp [index12] <;> simp [ix3, ix4, batchOf, qheadOf])
end

/-- The output arrays at the end of the run. -/
theorem arrAt10 (c : Dev nD) : (vdats m 0 c).arrAt 10 cfg0.N = arr0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine Pipeline.Dat.arrAt_eq_of_covers (vdats m 0 c) 10 _ (by decide +kernel) fun t hf y => ?_
  blk_simp
  obtain ⟨y0, j, d, rfl⟩ : ∃ (y0 : Fin 1) (j : Fin 512) (d : Fin 128), y = ix3 y0 j d := ⟨y 0, y 1, y 2, eq_ix3 y⟩
  obtain rfl : y0 = 0 := Subsingleton.elim _ _
  rw [emb10]
  exact o0_at m c t j d _ rfl
/-- Output array 2 at the end of the run. -/
theorem arrAt11 (c : Dev nD) : (vdats m 0 c).arrAt 11 cfg0.N
    = fun y : S4x40x1x512.Idx => (arr1 (m ((c.tc : Thread nD τ).loc main_arg0)) (m ((c.tc : Thread nD τ).loc main_arg1)) (m ((c.tc : Thread nD τ).loc main_arg2)) (m ((c.tc : Thread nD τ).loc main_arg4)) (ix3 (y 0) (y 3) (y 1)) : EReal) := by
  refine Pipeline.Dat.arrAt_eq_of_covers (vdats m 0 c) 11 _ (by decide +kernel) fun t hf y => ?_
  blk_simp
  obtain ⟨y0, y1, y2, j, rfl⟩ : ∃ (y0 y1 y2 : Fin 1) (j : Fin 512), y = ix4 y0 y1 y2 j := ⟨y 0, y 1, y 2, y 3, eq_ix4 y⟩
  obtain rfl : y0 = 0 := Subsingleton.elim _ _
  obtain rfl : y1 = 0 := Subsingleton.elim _ _
  obtain rfl : y2 = 0 := Subsingleton.elim _ _
  rw [emb11]
  exact o1_at m c t j
/-- Output array 3 at the end of the run. -/
theorem arrAt12 (c : Dev nD) : (vdats m 0 c).arrAt 12 cfg0.N
    = fun y : S4x40x1x512.Idx => (arr2 (m ((c.tc : Thread nD τ).loc main_arg0)) (m ((c.tc : Thread nD τ).loc main_arg1)) (m ((c.tc : Thread nD τ).loc main_arg6)) (m ((c.tc : Thread nD τ).loc main_arg8)) (ix3 (y 0) (y 3) (y 1)) : EReal) := by
  refine Pipeline.Dat.arrAt_eq_of_covers (vdats m 0 c) 12 _ (by decide +kernel) fun t hf y => ?_
  blk_simp
  obtain ⟨y0, y1, y2, j, rfl⟩ : ∃ (y0 y1 y2 : Fin 1) (j : Fin 512), y = ix4 y0 y1 y2 j := ⟨y 0, y 1, y 2, y 3, eq_ix4 y⟩
  obtain rfl : y0 = 0 := Subsingleton.elim _ _
  obtain rfl : y1 = 0 := Subsingleton.elim _ _
  obtain rfl : y2 = 0 := Subsingleton.elim _ _
  rw [emb12]
  exact o2_at m c t j
/-- The later host operations put result 1 into its shape. -/
theorem tail1 (c : Dev nD) : Pipeline.afterTail₀ cfgs (vdats m) 0 (V0 m) [hostOps1] c main_v15 = arr1 (m ((c.tc : Thread nD τ).loc main_arg0)) (m ((c.tc : Thread nD τ).loc main_arg1)) (m ((c.tc : Thread nD τ).loc main_arg2)) (m ((c.tc : Thread nD τ).loc main_arg4)) := by
  have e : Pipeline.withArrays spec0 c (V0 m c) (fun w => (vdats m 0 c).arrAt w cfg0.N) (Proc.devRef .tc main_v13_1)
      = fun y : S4x40x1x512.Idx => (arr1 (m ((c.tc : Thread nD τ).loc main_arg0)) (m ((c.tc : Thread nD τ).loc main_arg1)) (m ((c.tc : Thread nD τ).loc main_arg2)) (m ((c.tc : Thread nD τ).loc main_arg4)) (ix3 (y 0) (y 3) (y 1)) : EReal) :=
    (Pipeline.withArrays_arr spec0 launch0.win.arr_inj c (V0 m c) _ 11).trans (arrAt11 m c)
  unfold Pipeline.afterTail₀
  revert e
  generalize Pipeline.withArrays spec0 c (V0 m c) (fun w => (vdats m 0 c).arrAt w cfg0.N) = W
  intro e
  simp only [List.flatten_cons, List.flatten_nil, List.append_nil]
  after_results_simp
  rw [e]
  funext y
  obtain ⟨b, t, n, rfl⟩ : ∃ (b : Fin 4) (t : Fin 512) (n : Fin 40), y = ix3 b t n := ⟨y 0, y 1, y 2, eq_ix3 y⟩
  generalize arr1 (m ((c.tc : Thread nD τ).loc main_arg0)) (m ((c.tc : Thread nD τ).loc main_arg1)) (m ((c.tc : Thread nD τ).loc main_arg2)) (m ((c.tc : Thread nD τ).loc main_arg4)) = G
  pointwise []
/-- The later host operations put result 2 into its shape. -/
theorem tail2 (c : Dev nD) : Pipeline.afterTail₀ cfgs (vdats m) 0 (V0 m) [hostOps1] c main_v17 = arr2 (m ((c.tc : Thread nD τ).loc main_arg0)) (m ((c.tc : Thread nD τ).loc main_arg1)) (m ((c.tc : Thread nD τ).loc main_arg6)) (m ((c.tc : Thread nD τ).loc main_arg8)) := by
  have e : Pipeline.withArrays spec0 c (V0 m c) (fun w => (vdats m 0 c).arrAt w cfg0.N) (Proc.devRef .tc main_v13_2)
      = fun y : S4x40x1x512.Idx => (arr2 (m ((c.tc : Thread nD τ).loc main_arg0)) (m ((c.tc : Thread nD τ).loc main_arg1)) (m ((c.tc : Thread nD τ).loc main_arg6)) (m ((c.tc : Thread nD τ).loc main_arg8)) (ix3 (y 0) (y 3) (y 1)) : EReal) :=
    (Pipeline.withArrays_arr spec0 launch0.win.arr_inj c (V0 m c) _ 12).trans (arrAt12 m c)
  unfold Pipeline.afterTail₀
  revert e
  generalize Pipeline.withArrays spec0 c (V0 m c) (fun w => (vdats m 0 c).arrAt w cfg0.N) = W
  intro e
  simp only [List.flatten_cons, List.flatten_nil, List.append_nil]
  after_results_simp
  rw [e]
  funext y
  obtain ⟨b, t, n, rfl⟩ : ∃ (b : Fin 4) (t : Fin 512) (n : Fin 40), y = ix3 b t n := ⟨y 0, y 1, y 2, eq_ix3 y⟩
  generalize arr2 (m ((c.tc : Thread nD τ).loc main_arg0)) (m ((c.tc : Thread nD τ).loc main_arg1)) (m ((c.tc : Thread nD τ).loc main_arg6)) (m ((c.tc : Thread nD τ).loc main_arg8)) = G
  pointwise []

/-- The kernel's run: the three results are the three arrays of the arguments, and the arguments are unchanged. -/
theorem ker_run :
    θ_run defs (onTc (τ := τ) (main (F := Ideal))) ⟨m, fun _ => 0, ρ⟩ fun r => ∀ c : Dev nD,
      r.2.mem ((c.tc : Thread nD τ).loc main_v13_0) = arr0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v15) = arr1 (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v17) = arr2 (m ((c.tc : Thread nD τ).loc main_arg0)) (m ((c.tc : Thread nD τ).loc main_arg1)) (m ((c.tc : Thread nD τ).loc main_arg6)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h c).1 10).trans (arrAt10 m c),
    ((h c).2 main_v15 (Pipeline.mem_restRefs_of main_v15 (by decide) (by decide))).trans (tail1 m c),
    ((h c).2 main_v17 (Pipeline.mem_restRefs_of main_v17 (by decide) (by decide))).trans (tail2 m c),
    ((h c).2 main_arg0 (Pipeline.mem_restRefs_of main_arg0 (by decide) (by decide))).trans (W_main_arg0 m (vdats m) c),
    ((h c).2 main_arg1 (Pipeline.mem_restRefs_of main_arg1 (by decide) (by decide))).trans (W_main_arg1 m (vdats m) c),
    ((h c).2 main_arg2 (Pipeline.mem_restRefs_of main_arg2 (by decide) (by decide))).trans (W_main_arg2 m (vdats m) c),
    ((h c).2 main_arg3 (Pipeline.mem_restRefs_of main_arg3 (by decide) (by decide))).trans (W_main_arg3 m (vdats m) c),
    ((h c).2 main_arg4 (Pipeline.mem_restRefs_of main_arg4 (by decide) (by decide))).trans (W_main_arg4 m (vdats m) c),
    ((h c).2 main_arg5 (Pipeline.mem_restRefs_of main_arg5 (by decide) (by decide))).trans (W_main_arg5 m (vdats m) c),
    ((h c).2 main_arg6 (Pipeline.mem_restRefs_of main_arg6 (by decide) (by decide))).trans (W_main_arg6 m (vdats m) c),
    ((h c).2 main_arg7 (Pipeline.mem_restRefs_of main_arg7 (by decide) (by decide))).trans (W_main_arg7 m (vdats m) c),
    ((h c).2 main_arg8 (Pipeline.mem_restRefs_of main_arg8 (by decide) (by decide))).trans (W_main_arg8 m (vdats m) c),
    ((h c).2 main_arg9 (Pipeline.mem_restRefs_of main_arg9 (by decide) (by decide))).trans (W_main_arg9 m (vdats m) c)⟩) (vrun_main m ρ)

end Cert.KernelIdeal.Val

end
-- ==== Proof.lean ====
/-
  The claim: the two printed programs and the reference each run to the end and leave their arguments and every
  semaphore counter as they must, the idealized program is the printed one with its named constants, and over the
  extended reals the kernel and the reference end with the same three results.
-/
module

public import proofs.«01_k».proof.Defs
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.KernelFrame
public import proofs.«01_k».proof.Proof.KernelIdealFrame
public import proofs.«01_k».proof.Proof.RefB
public import proofs.«01_k».proof.Proof.Result

@[expose] public section

noncomputable section

namespace Cert.Proof

open Idealize.ShloMosaic Idealize.SL.Sem

/-- The two named constants are the reals their names stand for, and their bit patterns are those reals rounded. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl⟩

/-- From equal arguments the idealized kernel and the reference end with equal results, all three, and with their
    arguments unchanged. -/
theorem algebraic : Cert.algebraic_KernelIdeal_ReferenceIdeal (hKernelIdeal := Cert.KernelIdeal.Gen.facts)
    (hReferenceIdeal := Cert.ReferenceIdeal.Gen.facts) := fun m g m' g' _ hm => by
  refine ⟨fun c => Cert.Attn.arr0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), fun c => Cert.Attn.arr1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)), fun c => Cert.Attn.arr2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)),
    Cert.KernelIdeal.Val.ker_run m g, (θ_run Cert.ReferenceIdeal.defs _ _).mono (fun r h c => ?_) (Cert.ReferenceIdeal.Val.ref_run m' g')⟩
  obtain ⟨e0, e1, e2, e3, e4, e5, e6, e7, e8, e9⟩ := hm c
  obtain ⟨h0, h1, h2, ha⟩ := h c
  rw [e0, e1, e2, e3, e4, e5, e6, e7, e8, e9] at h0
  rw [e0, e1, e2, e4] at h1
  rw [e0, e1, e6, e8] at h2
  exact ⟨h0, h1, h2, ha⟩

/-- Every claim of the problem. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, preserves, algebraic⟩

end Cert.Proof

end
